-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5_2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x2048 : Shape := ⟨2, ![16384, 2048]⟩
abbrev S16x8x128x2048 : Shape := ⟨4, ![16, 8, 128, 2048]⟩
abbrev S16x17x8x128 : Shape := ⟨4, ![16, 17, 8, 128]⟩
abbrev S1x8x128x2048 : Shape := ⟨4, ![1, 8, 128, 2048]⟩
abbrev S1x17x8x128 : Shape := ⟨4, ![1, 17, 8, 128]⟩
abbrev S8x256x128 : Shape := ⟨3, ![8, 256, 128]⟩
abbrev S256x8x128 : Shape := ⟨3, ![256, 8, 128]⟩
abbrev S8x128 : Shape := ⟨2, ![8, 128]⟩
abbrev S1x1x128x256 : Shape := ⟨4, ![1, 1, 128, 256]⟩
abbrev S128x256 : Shape := ⟨2, ![128, 256]⟩
abbrev S256x128 : Shape := ⟨2, ![256, 128]⟩
abbrev S1x256x128 : Shape := ⟨3, ![1, 256, 128]⟩
abbrev S1x8x128 : Shape := ⟨3, ![1, 8, 128]⟩
abbrev S8x8x128 : Shape := ⟨3, ![8, 8, 128]⟩
abbrev S1x1x8x128 : Shape := ⟨4, ![1, 1, 8, 128]⟩
abbrev S16x8x128x17 : Shape := ⟨4, ![16, 8, 128, 17]⟩
abbrev S16384x17 : Shape := ⟨2, ![16384, 17]⟩

abbrev nBuf : Space → Nat
  | .hbm => 5
  | .vmem => 6
  | .smem => 0
  | _ => 0

abbrev bufTy : (tb : Table) → Fin (tcTables nBuf tb) → BufTy
  | .hbm, ⟨0, _⟩ => ⟨S16384x2048, .f32⟩
  | .hbm, ⟨1, _⟩ => ⟨S16x8x128x2048, .f32⟩
  | .hbm, ⟨2, _⟩ => ⟨S16x17x8x128, .f32⟩
  | .hbm, ⟨3, _⟩ => ⟨S16x8x128x17, .f32⟩
  | .hbm, ⟨4, _⟩ => ⟨S16384x17, .f32⟩
  | .local _ .vmem, ⟨0, _⟩ => ⟨S1x8x128x2048, .f32⟩
  | .local _ .vmem, ⟨1, _⟩ => ⟨S1x8x128x2048, .f32⟩
  | .local _ .vmem, ⟨2, _⟩ => ⟨S1x17x8x128, .f32⟩
  | .local _ .vmem, ⟨3, _⟩ => ⟨S1x17x8x128, .f32⟩
  | .local _ .vmem, ⟨4, _⟩ => ⟨S8x256x128, .f32⟩
  | .local _ .vmem, ⟨5, _⟩ => ⟨S256x8x128, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_4401 : BitVec 32 := 0#32
  let c32_i32 : BitVec 32 := 32#32
  let v7475 : BitVec 32 := Scalar.addi c0_i32_4401 c32_i32
  let c1_i32_4402 : BitVec 32 := 1#32
  ⟨c0_i32_4401, v7475, c1_i32_4402⟩
def k0_off1 (k0_t1 : Fin k0_t1_loop.trips) : Fin 3 → Nat :=
  let c0_i32_4401 : BitVec 32 := 0#32
  let c1_i32_4402 : BitVec 32 := 1#32
  let arg5 : BitVec 32 := Scf.iv c0_i32_4401 c1_i32_4402 k0_t1
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t2_loop : Scf.Loop 32 :=
  let c0_i32_9067 : BitVec 32 := 0#32
  let c32_i32_9068 : BitVec 32 := 32#32
  let v14949 : BitVec 32 := Scalar.addi c0_i32_9067 c32_i32_9068
  let c1_i32_9069 : BitVec 32 := 1#32
  ⟨c0_i32_9067, v14949, c1_i32_9069⟩
def k0_off2 (k0_t2 : Fin k0_t2_loop.trips) : Fin 3 → Nat :=
  let c0_i32_9067 : BitVec 32 := 0#32
  let c1_i32_9069 : BitVec 32 := 1#32
  let arg5 : BitVec 32 := Scf.iv c0_i32_9067 c1_i32_9069 k0_t2
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t3_loop : Scf.Loop 32 :=
  let c0_i32_13734 : BitVec 32 := 0#32
  let c32_i32_13735 : BitVec 32 := 32#32
  let v22423 : BitVec 32 := Scalar.addi c0_i32_13734 c32_i32_13735
  let c1_i32_13736 : BitVec 32 := 1#32
  ⟨c0_i32_13734, v22423, c1_i32_13736⟩
def k0_off3 (k0_t3 : Fin k0_t3_loop.trips) : Fin 3 → Nat :=
  let c0_i32_13734 : BitVec 32 := 0#32
  let c1_i32_13736 : BitVec 32 := 1#32
  let arg5 : BitVec 32 := Scf.iv c0_i32_13734 c1_i32_13736 k0_t3
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t4_loop : Scf.Loop 32 :=
  let c0_i32_18401 : BitVec 32 := 0#32
  let c32_i32_18402 : BitVec 32 := 32#32
  let v29897 : BitVec 32 := Scalar.addi c0_i32_18401 c32_i32_18402
  let c1_i32_18403 : BitVec 32 := 1#32
  ⟨c0_i32_18401, v29897, c1_i32_18403⟩
def k0_off4 (k0_t4 : Fin k0_t4_loop.trips) : Fin 3 → Nat :=
  let c0_i32_18401 : BitVec 32 := 0#32
  let c1_i32_18403 : BitVec 32 := 1#32
  let arg5 : BitVec 32 := Scf.iv c0_i32_18401 c1_i32_18403 k0_t4
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t5_loop : Scf.Loop 32 :=
  let c0_i32_23068 : BitVec 32 := 0#32
  let c32_i32_23069 : BitVec 32 := 32#32
  let v37371 : BitVec 32 := Scalar.addi c0_i32_23068 c32_i32_23069
  let c1_i32_23070 : BitVec 32 := 1#32
  ⟨c0_i32_23068, v37371, c1_i32_23070⟩
def k0_off5 (k0_t5 : Fin k0_t5_loop.trips) : Fin 3 → Nat :=
  let c0_i32_23068 : BitVec 32 := 0#32
  let c1_i32_23070 : BitVec 32 := 1#32
  let arg5 : BitVec 32 := Scf.iv c0_i32_23068 c1_i32_23070 k0_t5
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t6_loop : Scf.Loop 32 :=
  let c0_i32_27735 : BitVec 32 := 0#32
  let c32_i32_27736 : BitVec 32 := 32#32
  let v44845 : BitVec 32 := Scalar.addi c0_i32_27735 c32_i32_27736
  let c1_i32_27737 : BitVec 32 := 1#32
  ⟨c0_i32_27735, v44845, c1_i32_27737⟩
def k0_off6 (k0_t6 : Fin k0_t6_loop.trips) : Fin 3 → Nat :=
  let c0_i32_27735 : BitVec 32 := 0#32
  let c1_i32_27737 : BitVec 32 := 1#32
  let arg5 : BitVec 32 := Scf.iv c0_i32_27735 c1_i32_27737 k0_t6
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t7_loop : Scf.Loop 32 :=
  let c0_i32_32402 : BitVec 32 := 0#32
  let c32_i32_32403 : BitVec 32 := 32#32
  let v52319 : BitVec 32 := Scalar.addi c0_i32_32402 c32_i32_32403
  let c1_i32_32404 : BitVec 32 := 1#32
  ⟨c0_i32_32402, v52319, c1_i32_32404⟩
def k0_off7 (k0_t7 : Fin k0_t7_loop.trips) : Fin 3 → Nat :=
  let c0_i32_32402 : BitVec 32 := 0#32
  let c1_i32_32404 : BitVec 32 := 1#32
  let arg5 : BitVec 32 := Scf.iv c0_i32_32402 c1_i32_32404 k0_t7
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
@[reducible] def k0_t8_loop : Scf.Loop 32 :=
  let c0_i32_37069 : BitVec 32 := 0#32
  let c32_i32_37070 : BitVec 32 := 32#32
  let v59793 : BitVec 32 := Scalar.addi c0_i32_37069 c32_i32_37070
  let c1_i32_37071 : BitVec 32 := 1#32
  ⟨c0_i32_37069, v59793, c1_i32_37071⟩
def k0_off8 (k0_t8 : Fin k0_t8_loop.trips) : Fin 3 → Nat :=
  let c0_i32_37069 : BitVec 32 := 0#32
  let c1_i32_37071 : BitVec 32 := 1#32
  let arg5 : BitVec 32 := Scf.iv c0_i32_37069 c1_i32_37071 k0_t8
  let c8_i32 : BitVec 32 := 8#32
  let v59846 : BitVec 32 := Scalar.muli arg5 c8_i32
  let v59847 : Index := Scalar.indexCast v59846
  let c0_37141 : Index := 0#32
  let c0_37142 : Index := 0#32
  ![v59847.toNat, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x17x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x2048 : Shape := ⟨2, ![16384, 2048]⟩
abbrev S_ : Shape := ⟨0, ![]⟩
abbrev S16384x17 : Shape := ⟨2, ![16384, 17]⟩
abbrev S1 : Shape := ⟨1, ![1]⟩
abbrev S16384 : Shape := ⟨1, ![16384]⟩
abbrev S2048x16384 : Shape := ⟨2, ![2048, 16384]⟩
abbrev S1x16384 : Shape := ⟨2, ![1, 16384]⟩
abbrev S16384x1 : Shape := ⟨2, ![16384, 1]⟩
abbrev S16384x16 : Shape := ⟨2, ![16384, 16]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S_, .f32⟩
  | .hbm, ⟨2, _⟩ => ⟨S16384x17, .f32⟩
  | .hbm, ⟨3, _⟩ => ⟨S_, .i32⟩
  | .hbm, ⟨4, _⟩ => ⟨S1, .i32⟩
  | .hbm, ⟨5, _⟩ => ⟨S_, .f32⟩
  | .hbm, ⟨6, _⟩ => ⟨S16384, .f32⟩
  | .hbm, ⟨7, _⟩ => ⟨S16384x17, .f32⟩
  | .hbm, ⟨8, _⟩ => ⟨S2048x16384, .f32⟩
  | .hbm, ⟨9, _⟩ => ⟨S_, .i32⟩
  | .hbm, ⟨10, _⟩ => ⟨S2048x16384, .f32⟩
  | .hbm, ⟨11, _⟩ => ⟨S_, .i32⟩
  | .hbm, ⟨12, _⟩ => ⟨S16384x17, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S1x16384, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x16, .f32⟩
  | .hbm, ⟨22, _⟩ => ⟨S16384x17, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x17, .f32⟩
  | .hbm, ⟨27, _⟩ => ⟨S16384x17, .f32⟩
  | .hbm, ⟨28, _⟩ => ⟨S16384x17, .f32⟩
  | .hbm, ⟨29, _⟩ => ⟨S16384x17, .f32⟩
  | .hbm, ⟨30, _⟩ => ⟨S16384x17, .f32⟩
  | .hbm, ⟨31, _⟩ => ⟨S16384x1, .f32⟩
  | .hbm, ⟨32, _⟩ => ⟨S16384, .f32⟩
  | .hbm, ⟨33, _⟩ => ⟨S_, .i32⟩
  | .hbm, ⟨34, _⟩ => ⟨S1, .i32⟩
  | .hbm, ⟨35, _⟩ => ⟨S16384x17, .f32⟩
  | .hbm, ⟨36, _⟩ => ⟨S_, .i32⟩
  | .hbm, ⟨37, _⟩ => ⟨S_, .i32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_while0c_c_4 : Ref sig .tc := ⟨.hbm, 13, rfl⟩
abbrev main_while0c_v6 : Ref sig .tc := ⟨.hbm, 14, rfl⟩
abbrev main_while0b_call0_c : Ref sig .tc := ⟨.hbm, 15, rfl⟩
abbrev main_while0b_call0_v0 : Ref sig .tc := ⟨.hbm, 16, rfl⟩
abbrev main_while0b_v6 : Ref sig .tc := ⟨.hbm, 17, rfl⟩
abbrev main_while0b_v7 : Ref sig .tc := ⟨.hbm, 18, rfl⟩
abbrev main_while0b_cst_4 : Ref sig .tc := ⟨.hbm, 19, rfl⟩
abbrev main_while0b_v8 : Ref sig .tc := ⟨.hbm, 20, rfl⟩
abbrev main_while0b_v9 : Ref sig .tc := ⟨.hbm, 21, rfl⟩
abbrev main_while0b_v10 : Ref sig .tc := ⟨.hbm, 22, rfl⟩
abbrev main_while0b_cst_5 : Ref sig .tc := ⟨.hbm, 23, rfl⟩
abbrev main_while0b_v11 : Ref sig .tc := ⟨.hbm, 24, rfl⟩
abbrev main_while0b_v12 : Ref sig .tc := ⟨.hbm, 25, rfl⟩
abbrev main_while0b_v13 : Ref sig .tc := ⟨.hbm, 26, rfl⟩
abbrev main_while0b_v14 : Ref sig .tc := ⟨.hbm, 27, rfl⟩
abbrev main_while0b_v15 : Ref sig .tc := ⟨.hbm, 28, rfl⟩
abbrev main_while0b_v16 : Ref sig .tc := ⟨.hbm, 29, rfl⟩
abbrev main_while0b_v17 : Ref sig .tc := ⟨.hbm, 30, rfl⟩
abbrev main_while0b_v18 : Ref sig .tc := ⟨.hbm, 31, rfl⟩
abbrev main_while0b_v19 : Ref sig .tc := ⟨.hbm, 32, rfl⟩
abbrev main_while0b_c_6 : Ref sig .tc := ⟨.hbm, 33, rfl⟩
abbrev main_while0b_v20 : Ref sig .tc := ⟨.hbm, 34, rfl⟩
abbrev main_while0b_v21 : Ref sig .tc := ⟨.hbm, 35, rfl⟩
abbrev main_while0b_c_7 : Ref sig .tc := ⟨.hbm, 36, rfl⟩
abbrev main_while0b_v22 : Ref sig .tc := ⟨.hbm, 37, rfl⟩

abbrev nD : Nat := 1
abbrev τ : Topo := Topo.v7x

variable {F : FTy → Type} [FloatOps F]

abbrev main_while0_count : Scf.Loop 32 := ⟨0#32, 2048#32, 1#32⟩
-- ==== Proof.Recur.lean ====
/-
  The recurrence that both programs run, as a function on extended reals: the distribution of a count of independent Bernoulli events, one event a step, kept in 17 bins of
  which the last gathers everything from 16 on. And a scatter of one column into a matrix, read at an entry, for any combining function.
-/
module

public import Idealize.ShloMosaic.Lib.Routing.OpsOne
public import Idealize.ShloMosaic.PureOps.Ideal

@[expose] public section

noncomputable section

namespace Cert.Proof

open Idealize.ShloMosaic Idealize.ShloMosaic.ValueIdx Idealize.ShloMosaic.Routing

/-- One event of probability `x`: bin `k` keeps the share `1 - x` of what it held and takes the share `x` of what bin `k - 1` held; the last bin also keeps what it held. -/
def nextBin (x : EReal) (d : Fin 17 → EReal) (k : Fin 17) : EReal :=
  if k.val = 0 then d 0 * (1 - x)
  else if k.val = 16 then (d 16 * (1 - x) + d 15 * x) + d 16
  else d k * (1 - x) + d ⟨k.val - 1, by omega⟩ * x

/-- The bins after the first `n` events of probabilities `p 0`, `p 1`, …: bin 0 starts at one, the others at zero. -/
def bins (p : ℕ → EReal) : ℕ → Fin 17 → EReal
  | 0 => fun k => if k.val = 0 then 1 else 0
  | n + 1 => nextBin (p n) (bins p n)

/-- The bins after `n` events depend only on the first `n` probabilities. -/
theorem bins_congr (p q : ℕ → EReal) : ∀ n, (∀ t, t < n → p t = q t) → bins p n = bins q n
  | 0, _ => rfl
  | n + 1, h => by
    show nextBin (p n) (bins p n) = nextBin (q n) (bins q n)
    rw [h n (Nat.lt_succ_self n), bins_congr p q n fun t ht => h t (Nat.lt_succ_of_lt ht)]

/-- A fold that acts at no element of the list leaves the start. -/
theorem foldl_miss {α β : Type} (hit : β → Prop) [DecidablePred hit] (f : α → α → α) (v : β → α) :
    ∀ (l : List β) (x : α), (∀ n ∈ l, ¬hit n) → l.foldl (fun a n => if hit n then f a (v n) else a) x = x
  | [], _, _ => rfl
  | n :: l, x, h => by
    rw [List.foldl_cons, if_neg (h n List.mem_cons_self)]
    exact foldl_miss hit f v l x fun m hm => h m (List.mem_cons_of_mem n hm)

/-- A fold over a list without repetitions that acts at one element `n₀` of it only acts once. -/
theorem foldl_once {α β : Type} (hit : β → Prop) [DecidablePred hit] (f : α → α → α) (v : β → α) (n₀ : β) (h₀ : hit n₀) (hu : ∀ n, hit n → n = n₀)
    (l : List β) (hl : l.Nodup) (hm : n₀ ∈ l) (x : α) :
    l.foldl (fun a n => if hit n then f a (v n) else a) x = f x (v n₀) := by
  obtain ⟨l₁, l₂, rfl⟩ := List.append_of_mem hm
  have hd := List.nodup_append.1 hl
  have h₂ := List.nodup_cons.1 hd.2.1
  rw [List.foldl_append, List.foldl_cons, foldl_miss hit f v l₁, if_pos h₀, foldl_miss hit f v l₂]
  · intro n hn hh
    exact h₂.1 (hu n hh ▸ hn)
  · intro n hn hh
    exact hd.2.2 n hn n₀ List.mem_cons_self (hu n hh)

/-- A scatter of one column into a matrix at a literal column, with any combining function, read at an entry: combined in that column, the operand's entry elsewhere. -/
theorem scatter_column {α : Type} {A N : Nat} (d : ScatterDims (shape2 A N) (shape1 1) (shape1 A)) (hiw : d.insertedWindowDims = [1])
    (hsd : d.scatterDimsToOperandDims = [1]) (f : α → α → α) (x0 : (shape2 A N).Idx → α) (idx : IVec (shape1 1) 32) (upd : (shape1 A).Idx → α)
    (k : Fin N) (hidx : (idx (ix1 0)).toInt = (k.val : Int)) (w : Fin A) (e : Fin N) :
    Host.scatter d f x0 idx upd (ix2 w e) = if e = k then f (x0 (ix2 w e)) (upd (ix1 w)) else x0 (ix2 w e) := by
  have lands : ∀ j : (shape1 A).Idx, d.resultIdx? j idx = some (ix2 w e) → j 0 = w ∧ e = k := fun j hj =>
    (lands_col d hiw hsd idx k hidx (j 0) w e).1 ((congrArg (fun t => d.resultIdx? t idx) (eq_ix1 j).symm).trans hj)
  rw [scatter_at]
  by_cases h : e = k
  · rw [if_pos h, foldl_once (fun n => d.resultIdx? ((shape1 A).rowMajor.symm n) idx = some (ix2 w e)) f (fun n => upd ((shape1 A).rowMajor.symm n))
      ((shape1 A).rowMajor (ix1 w)) (by rw [Equiv.symm_apply_apply]; exact (lands_col d hiw hsd idx k hidx w w e).2 ⟨rfl, h⟩) (fun n hn => ?_) _
      (List.nodup_finRange _) (List.mem_finRange _), Equiv.symm_apply_apply]
    rw [← (shape1 A).rowMajor.apply_symm_apply n]
    refine congrArg _ ((eq_ix1 _).trans (congrArg ix1 (lands _ hn).1))
  · rw [if_neg h]
    exact foldl_miss _ f _ _ _ fun n _ hn => h (lands _ hn).2

end Cert.Proof

end
-- ==== Proof.RefValue.lean ====
/-
  The reference's result at an entry: row `b`, bin `k` is bin `k` of the recurrence over row `b`'s 2048 probabilities.
-/
module

public import proofs.«01_k».proof.Proof.Gen.ReferenceIdeal.Run
public import proofs.«01_k».proof.Proof.Recur
public import Idealize.ShloMosaic.Lib.Pointwise

@[expose] public section

set_option maxRecDepth 16384

noncomputable section

namespace Cert.Proof.Ref

open Idealize.ShloMosaic Idealize.ShloMosaic.TcCoe Idealize.SL.Sem Idealize.ShloMosaic.StableHlo
open Cert.ReferenceIdeal Cert.ReferenceIdeal.Gen Cert.ReferenceIdeal.Value

attribute [local irreducible] Host.scatter

/-- The transposed probabilities. -/
abbrev probsT (x : FVec Ideal S16384x2048 .f32) : FVec Ideal S2048x16384 .f32 := transpose S2048x16384 [1, 0] x transposes_S16384x2048_S2048x16384_1_0

/-- The bins before the first trip: one in bin 0 of every row, zero elsewhere. -/
def start : FVec Ideal S16384x17 .f32 :=
  Host.scatter scatter_S16384x17_S1_S16384_0_1_1_0 (fun _ b => b) (broadcastInDim S16384x17 ![] bcast_S_S16384x17 (constant S_ .f32 0x00000000#32))
    (broadcastInDim S1 ![] bcast_S_S1 (constantI S_ 32 0#32)) (broadcastInDim S16384 ![] bcast_S_S16384 (constant S_ .f32 0x3F800000#32))

/-- One trip's probabilities as a column: the row of `P` that the trip's number `n` names. -/
def column (P : FVec Ideal S2048x16384 .f32) (n : IVec S_ 32) : FVec Ideal S16384x1 .f32 :=
  broadcastInDim S16384x1 ![0] bcast_S16384_S16384x1_0 (shapeCast S16384 (Host.dynamicSlice S1x16384 P
    (fun k => (((![n, constantI S_ 32 0#32] : Fin 2 → IVec S_ 32)) k (Shape.Idx.first h_S_)).toInt) sliceFits_S2048x16384_S1x16384) shapeCasts_S1x16384_S16384)

/-- The bins moved by one, times the probabilities, and the bins times what is left. -/
def mixed (p : FVec Ideal S16384x1 .f32) (D : FVec Ideal S16384x17 .f32) : FVec Ideal S16384x17 .f32 :=
  addf (mulf D (broadcastInDim S16384x17 ![0, 1] bcast_S16384x1_S16384x17_0_1 (subf (broadcastInDim S16384x1 ![] bcast_S_S16384x1 (constant S_ .f32 0x3F800000#32)) p)))
    (mulf (concatenate S16384x17 1 [⟨S16384x1, (broadcastInDim S16384x1 ![] bcast_S_S16384x1 (constant S_ .f32 0x00000000#32))⟩,
      ⟨S16384x16, (extractStridedSlice S16384x16 ![0, 0] D slices_S16384x17_S16384x16_0_0)⟩] concatenates_S16384x1_S16384x16_S16384x17_d1)
      (broadcastInDim S16384x17 ![0, 1] bcast_S16384x1_S16384x17_0_1 p))

/-- One trip on the bins: `mixed`, and the last bin's old value added to it. -/
def trip (p : FVec Ideal S16384x1 .f32) (D : FVec Ideal S16384x17 .f32) : FVec Ideal S16384x17 .f32 :=
  Host.scatter scatter_S16384x17_S1_S16384_0_1_1_0 (FloatOps.addf (F := Ideal) (φ := .f32)) (mixed p D)
    (broadcastInDim S1 ![] bcast_S_S1 (constantI S_ 32 16#32)) (shapeCast S16384 (extractStridedSlice S16384x1 ![0, 16] D slices_S16384x17_S16384x1_0_16) shapeCasts_S16384x1_S16384)

/-- The generated step of the bins is `trip`. -/
theorem step_eq (V : Valuation τ sig (Elt Ideal)) :
    step_main_v5_2 V = trip (column (V (Proc.devRef .tc main_v5_0)) (V (Proc.devRef .tc main_v5_1))) (V (Proc.devRef .tc main_v5_2)) := by
  unfold step_main_v5_2 res_main_while0b_v7 trip mixed column
  rw [id_eq]
  rfl

/-- The bins before the first trip, at an entry. -/
theorem start_apply (b : Fin 16384) (k : Fin 17) : start (ix2 b k) = if k.val = 0 then (1 : EReal) else 0 := by
  refine (scatter_column _ rfl rfl _ _ _ _ (0 : Fin 17) ?_ b k).trans ?_
  · decide
  · by_cases h : k = 0
    · subst h
      rw [if_pos rfl]
      exact Ideal.ofBits_one_f32.trans (if_pos rfl).symm
    · rw [if_neg h]
      exact Ideal.ofBits_zero_f32.trans (if_neg fun e => h (Fin.ext e)).symm

/-- A trip's number below 2048 names its own row. -/
theorem row_eq (j : ℕ) (hj : j < 2048) : (min (max (BitVec.ofNat 32 j).toInt 0) ((2048 - 1 : Nat) : Int)).toNat = j := by
  rw [StableHlo.Predicate.toInt_ofNat_small _ (by omega)]
  omega

/-- A trip's column at an entry. -/
theorem column_apply (P : FVec Ideal S2048x16384 .f32) (j : ℕ) (hj : j < 2048) (b : Fin 16384) :
    column P (constantI S_ 32 (BitVec.ofNat 32 j)) (ix2 b 0) = P (ix2 ⟨j, hj⟩ b) := by
  unfold column
  pointwise
  refine congrArg P (funext fun a => Fin.ext ?_)
  match a with
  | ⟨0, _⟩ => exact row_eq j hj
  | ⟨1, _⟩ => exact Nat.zero_add b.val

/-- One trip at an entry: one event of the recurrence. -/
theorem trip_apply (p : FVec Ideal S16384x1 .f32) (D : FVec Ideal S16384x17 .f32) (b : Fin 16384) (k : Fin 17) :
    trip p D (ix2 b k) = nextBin (p (ix2 b 0)) (fun e => D (ix2 b e)) k := by
  have hm : mixed p D (ix2 b k) = if k.val = 0 then D (ix2 b 0) * (1 - p (ix2 b 0)) else D (ix2 b k) * (1 - p (ix2 b 0)) + D (ix2 b ⟨k.val - 1, by omega⟩) * p (ix2 b 0) := by
    unfold mixed
    pointwise
    by_cases h : k.val < 1
    · obtain rfl : k = 0 := Fin.ext (by simpa using h)
      simp
    · rw [dif_neg h]
      exact (if_neg fun e => h (Nat.lt_of_le_of_lt (Nat.le_of_eq e) Nat.one_pos)).symm
  refine (scatter_column _ rfl rfl _ _ _ _ (16 : Fin 17) ?_ b k).trans ?_
  · decide
  · refine (congrArg (fun t => if k = 16 then FloatOps.addf (F := Ideal) (φ := .f32) t _ else t) hm).trans ?_
    unfold nextBin
    pointwise
    by_cases h : k = 16
    · subst h
      rfl
    · rw [if_neg h]
      by_cases h0 : k.val = 0
      · rw [if_pos h0, if_pos h0]
      · rw [if_neg h0, if_neg h0]
        exact (if_neg fun e => h (Fin.ext e)).symm

/-- The `k`-th valuation of the loop: number `k`, the transposed probabilities, and the recurrence's bins after `k` events. -/
theorem iter_holds (m : (ℓ : Loc nD τ sig) → Buf (Elt Ideal) ℓ) (c : Dev nD) : ∀ n, n ≤ 2048 →
    (STEP^[n] (entryContents preI m c)) (Proc.devRef .tc main_v5_1) = constantI S_ 32 (BitVec.ofNat 32 n)
    ∧ (STEP^[n] (entryContents preI m c)) (Proc.devRef .tc main_v5_0) = probsT (m ((c.tc : Thread nD τ).loc main_arg0))
    ∧ ∀ b k, ((STEP^[n] (entryContents preI m c)) (Proc.devRef .tc main_v5_2) : FVec Ideal S16384x17 .f32) (ix2 b k)
        = bins (fun t => if h : t < 2048 then (m ((c.tc : Thread nD τ).loc main_arg0) : FVec Ideal S16384x2048 .f32) (ix2 b ⟨t, h⟩) else 0) n k
  | 0, _ => by
    refine ⟨?_, ?_, fun b k => ?_⟩
    · simp only [Function.iterate_zero, id_eq, entryContents, afterL_cons, afterL_nil]; after_reads_simp; rfl
    · simp only [Function.iterate_zero, id_eq, entryContents, afterL_cons, afterL_nil]; after_reads_simp; rfl
    · refine Eq.trans (congrFun ?_ (ix2 b k)) (start_apply b k)
      simp only [Function.iterate_zero, id_eq, entryContents, afterL_cons, afterL_nil]; after_reads_simp; unfold start; rfl
  | n + 1, hn => by
    obtain ⟨h1, h0, h2⟩ := iter_holds m c n (by omega)
    simp only [Function.iterate_succ_apply']
    refine ⟨?_, ?_, fun b k => ?_⟩
    · rw [STEP_main_v5_1]
      unfold step_main_v5_1
      rw [h1]
      funext i
      show BitVec.ofNat 32 n + 1#32 = BitVec.ofNat 32 (n + 1)
      simp only [BitVec.ofNat_add]
    · rw [STEP_main_v5_0, h0]
    · rw [STEP_main_v5_2, step_eq, h1, h0, trip_apply, column_apply _ n (by omega)]
      refine Eq.trans ?_ (show nextBin _ (bins _ n) k = bins _ (n + 1) k from rfl)
      refine congr (congr (congrArg nextBin ?_) (funext fun e => h2 b e)) rfl
      refine Eq.trans ?_ (dif_pos (show n < 2048 by omega)).symm
      unfold probsT
      pointwise

end Cert.Proof.Ref

end
-- ==== Proof.Shuffle.lean ====
/-
  The two scratch buffers of the kernel, read at an entry: eight transposed slabs of the input's block in the first, and in the second, row by row, the tiles that three rounds of exchanges make of them.
-/
module

public import proofs.«01_k».proof.Proof.Gen.KernelIdeal.Frame
public import Idealize.ShloMosaic.PureOps.Ideal
public import Idealize.ShloMosaic.Lib.Pointwise
public import Idealize.ShloMosaic.Lib.WholeRead
public import Idealize.ShloMosaic.Lib.WritesUnit

@[expose] public section

set_option maxRecDepth 16384

noncomputable section

namespace Cert.Proof.Kern

open Idealize.ShloMosaic Idealize.ShloMosaic.TcCoe Idealize.SL.Sem
open Cert.KernelIdeal Cert.KernelIdeal.Gen

local notation "Tile" => FVec Ideal S8x128 FTy.f32

/-- Where the numbers of a tile's row and of the tile agree in the bit `k`. -/
def mask (k s : ℕ) : IVec S8x128 1 :=
  cmpi .eq (andi (xori (iota Kind.tc S8x128 32 [0] iota_S8x128_d0_w32) (broadcast S8x128 (BitVec.ofNat 32 s))) (broadcast S8x128 (BitVec.ofNat 32 k))) (broadcast S8x128 0#32)

/-- By how many rows the partner's tile is rotated. -/
def shift (k s : ℕ) : ℕ := if s &&& k = 0 then k else 8 - k

/-- One round of exchanges: tile `s` keeps its entries under the mask and takes the others from the rotated tile whose number differs in the bit `k`. -/
def exchange (k : ℕ) (a : ℕ → Tile) (s : ℕ) : Tile :=
  select (mask k s) (a s) (dynamicRotate 0 (BitVec.ofNat 32 (shift k s)) none (a (s ^^^ k)))

/-- The three rounds. -/
def shuffle (a : ℕ → Tile) : ℕ → Tile := exchange 4 (exchange 2 (exchange 1 a))

/-- The row that an entry of row `r` is taken from in the round `k`. -/
def row (k s r : Fin 8) : Fin 8 := if (r.val ^^^ s.val) &&& k.val = 0 then r else ⟨(r.val + 8 - shift k s % 8) % 8, by omega⟩

/-- The tile that an entry of row `r` is taken from in the round `k`. -/
def tile (k s r : Fin 8) : Fin 8 := if (r.val ^^^ s.val) &&& k.val = 0 then s else s ^^^ k

/-- The mask at an entry. -/
theorem mask_apply (k s r : Fin 8) (l : Fin 128) : mask k s (ix2 r l) = if (r.val ^^^ s.val) &&& k.val = 0 then 1#1 else 0#1 := by
  have h : mask k s (ix2 r l) = IntOp.cmpi .eq (IntOp.andi (IntOp.xori (BitVec.ofNat 32 r.val) (BitVec.ofNat 32 s.val)) (BitVec.ofNat 32 k.val)) 0#32 := by
    pointwise [mask]
  rw [h]
  clear h l
  revert k s r
  decide +kernel

/-- A rotation of a tile along its rows, at an entry. -/
theorem rotate_apply (x : Tile) (k s r : Fin 8) (l : Fin 128) (h : S8x128.Rotates 0 none) :
    dynamicRotate 0 (BitVec.ofNat 32 (shift k s)) none x h (ix2 r l) = x (ix2 ⟨(r.val + 8 - shift k s % 8) % 8, by omega⟩ l) := by
  have e : (BitVec.ofNat 32 (shift k s)).toNat = shift k s := by
    revert k s
    decide +kernel
  refine congrArg x ?_
  funext b
  match b with
  | ⟨0, _⟩ =>
    refine Fin.ext ?_
    show (r.val + 8 - ((BitVec.ofNat 32 (shift k s)).toNat + 0) % 8) % 8 = _
    rw [e]
    rfl
  | ⟨1, _⟩ => rfl

/-- A round of exchanges at an entry. -/
theorem exchange_apply (k : Fin 8) (a : ℕ → Tile) (s r : Fin 8) (l : Fin 128) : exchange k a s (ix2 r l) = a (tile k s r) (ix2 (row k s r) l) := by
  have hx : s.val ^^^ k.val = (s ^^^ k : Fin 8).val := by
    revert k s
    decide +kernel
  unfold exchange tile row
  by_cases h : (r.val ^^^ s.val) &&& k.val = 0
  · rw [if_pos h, if_pos h]
    show (if mask k s (ix2 r l) = 1#1 then a s (ix2 r l) else _) = _
    rw [mask_apply, if_pos h, if_pos rfl]
  · rw [if_neg h, if_neg h]
    show (if mask k s (ix2 r l) = 1#1 then _ else dynamicRotate 0 (BitVec.ofNat 32 (shift k s)) none (a (s.val ^^^ k.val)) _ (ix2 r l)) = _
    rw [mask_apply, if_neg h, if_neg (by decide), rotate_apply, hx]

/-- Three rounds lead from row `r` of tile `s` to row `s` of tile `r`. -/
theorem turned : ∀ s r : Fin 8, tile 1 (tile 2 (tile 4 s r) (row 4 s r)) (row 2 (tile 4 s r) (row 4 s r)) = r
    ∧ row 1 (tile 2 (tile 4 s r) (row 4 s r)) (row 2 (tile 4 s r) (row 4 s r)) = s := by
  decide +kernel

/-- The three rounds turn eight tiles over: row `r` of tile `s` is row `s` of tile `r`. -/
theorem shuffle_apply (a : ℕ → Tile) (s r : Fin 8) (l : Fin 128) : shuffle a s (ix2 r l) = a r (ix2 s l) := by
  refine (exchange_apply 4 _ s r l).trans ((exchange_apply 2 _ _ _ l).trans ((exchange_apply 1 _ _ _ l).trans ?_))
  rw [(turned s r).1, (turned s r).2]

/-- A load of eight rows of slab `s` of the first scratch buffer. -/
def part (arg3 : Memref sig .tc .vmem S8x256x128 .f32) (Z : List (View.Piece (Elt Ideal) S8x256x128 .f32)) (g s : ℕ) : Tile :=
  shapeCast S8x128 (arg3.view.readCov Z (Rect.unit (s := S8x256x128) ![s % 8, 8 * (g % 32), 0] S1x8x128.size (fun a => by
    match a with
    | ⟨0, _⟩ => exact Nat.mod_lt s (by decide)
    | ⟨1, _⟩ => have : g % 32 < 32 := Nat.mod_lt g (by decide); show 8 * (g % 32) + 8 ≤ 256; omega
    | ⟨2, _⟩ => exact le_refl 128)).toLoadRect) shapeCasts_S1x8x128_S8x128

/-- The first `n` tiles stored into the second scratch buffer, newest first, above older stores `B`. -/
def cells (arg3 : Memref sig .tc .vmem S8x256x128 .f32) (Z : List (View.Piece (Elt Ideal) S8x256x128 .f32)) (B : List (View.Piece (Elt Ideal) S256x8x128 .f32)) :
    ℕ → List (View.Piece (Elt Ideal) S256x8x128 .f32)
  | 0 => B
  | n + 1 => ⟨Rect.unit ![n % 256, 0, 0] S1x8x128.size (fun a => by
      match a with
      | ⟨0, _⟩ => exact Nat.mod_lt n (by decide)
      | ⟨1, _⟩ => exact le_refl 8
      | ⟨2, _⟩ => exact le_refl 128), shapeCast S1x8x128 (shuffle (part arg3 Z (n / 8)) (n % 8)) shapeCasts_S8x128_S1x8x128⟩ :: cells arg3 Z B n

/-- The first `n` slabs of a chunk of columns stored into the first scratch buffer, newest first, above older stores `B`. -/
def slabs (arg1 : Memref sig .tc .vmem S1x8x128x2048 .f32) (X : BufTy.Contents (Elt Ideal) arg1.view.ty) (ch : ℕ) (B : List (View.Piece (Elt Ideal) S8x256x128 .f32)) :
    ℕ → List (View.Piece (Elt Ideal) S8x256x128 .f32)
  | 0 => B
  | n + 1 => ⟨Rect.unit ![n % 8, 0, 0] S1x256x128.size (fun a => by
      match a with
      | ⟨0, _⟩ => exact Nat.mod_lt n (by decide)
      | ⟨1, _⟩ => exact le_refl 256
      | ⟨2, _⟩ => exact le_refl 128),
        shapeCast S1x256x128 (transpose S256x128 [1, 0] (shapeCast S128x256 (View.readAt (Elt Ideal) arg1.view
          (Rect.unit (s := S1x8x128x2048) ![0, n % 8, 0, 256 * (ch % 8)] S1x1x128x256.size (fun a => by
            match a with
            | ⟨0, _⟩ => exact le_refl 1
            | ⟨1, _⟩ => exact Nat.mod_lt n (by decide)
            | ⟨2, _⟩ => exact le_refl 128
            | ⟨3, _⟩ => have : ch % 8 < 8 := Nat.mod_lt ch (by decide); show 256 * (ch % 8) + 256 ≤ 2048; omega)).toLoadRect X)
          shapeCasts_S1x1x128x256_S128x256) transposes_S128x256_p1_0_S256x128) shapeCasts_S256x128_S1x256x128⟩ :: slabs arg1 X ch B n

/-- A tile with a leading axis of one, at an entry. -/
theorem cast_up (v : Tile) (r : Fin 8) (l : Fin 128) : shapeCast S1x8x128 v shapeCasts_S8x128_S1x8x128 (ix3 0 r l) = v (ix2 r l) := by
  pointwise

/-- A tile without its leading axis of one, at an entry. -/
theorem cast_down (w : FVec Ideal S1x8x128 .f32) (r : Fin 8) (l : Fin 128) : shapeCast S8x128 w shapeCasts_S1x8x128_S8x128 (ix2 r l) = w (ix3 0 r l) := by
  pointwise

/-- A slab transposed, at an entry. -/
theorem slab_cast (w : FVec Ideal S1x1x128x256 .f32) (q : Fin 256) (l : Fin 128) :
    shapeCast S1x256x128 (transpose S256x128 [1, 0] (shapeCast S128x256 w shapeCasts_S1x1x128x256_S128x256) transposes_S128x256_p1_0_S256x128) shapeCasts_S256x128_S1x256x128 (ix3 0 q l)
      = w (ix4 0 0 l q) := by
  pointwise

/-- Row `n` of the second scratch buffer after its tiles are stored: row `r` of it is row `n % 8` of the part loaded from slab `r`. -/
theorem cells_apply (arg3 : Memref sig .tc .vmem S8x256x128 .f32) (Z : List (View.Piece (Elt Ideal) S8x256x128 .f32)) (B : List (View.Piece (Elt Ideal) S256x8x128 .f32))
    (arg4 : Memref sig .tc .vmem S256x8x128 .f32) (f : BufTy.Contents (Elt Ideal) arg4.view.ty) (n : Fin 256) (r : Fin 8) (l : Fin 128) :
    ∀ N ≤ 256, n.val < N → arg4.view.read (Elt Ideal) (arg4.view.writes (Elt Ideal) f (cells arg3 Z B N)) (ix3 n r l)
      = part arg3 Z (n.val / 8) r (ix2 ⟨n.val % 8, Nat.mod_lt _ (by decide)⟩ l)
  | 0, _, h => absurd h (Nat.not_lt_zero _)
  | N + 1, hN, h => by
    have hm : N % 256 = N := Nat.mod_eq_of_lt (by omega)
    by_cases e : n.val = N
    · refine (View.read_writes_cons_unit_of_mem arg4.view f _ _ _ (ix3 n r l) (ix3 0 r l) rfl fun a => ?_).trans ?_
      · match a with
        | ⟨0, _⟩ => show n.val = N % 256 + 0; omega
        | ⟨1, _⟩ => show r.val = 0 + r.val; omega
        | ⟨2, _⟩ => show l.val = 0 + l.val; omega
      · refine (cast_up _ r l).trans ?_
        subst e
        exact shuffle_apply _ ⟨n.val % 8, Nat.mod_lt _ (by decide)⟩ r l
    · refine (View.read_writes_cons_unit_of_not_mem arg4.view f _ _ _ (ix3 n r l) rfl 0 ?_).trans (cells_apply arg3 Z B arg4 f n r l N (by omega) (by omega))
      show n.val < N % 256 ∨ N % 256 + 1 ≤ n.val
      omega

/-- Column `q` of the chunk in slab `s` of the first scratch buffer after its slabs are stored. -/
theorem slabs_apply (arg1 : Memref sig .tc .vmem S1x8x128x2048 .f32) (harg1 : arg1.IsWhole) (x0 : Vec Ideal S1x8x128x2048 .f32) (ch : Fin 8) (B : List (View.Piece (Elt Ideal) S8x256x128 .f32))
    (arg3 : Memref sig .tc .vmem S8x256x128 .f32) (f : BufTy.Contents (Elt Ideal) arg3.view.ty) (s : Fin 8) (q : Fin 256) (l : Fin 128) :
    ∀ N ≤ 8, s.val < N → arg3.view.read (Elt Ideal) (arg3.view.writes (Elt Ideal) f (slabs arg1 (harg1.unread x0) ch B N)) (ix3 s q l)
      = x0 (ix4 0 s l ⟨256 * ch.val + q.val, by omega⟩)
  | 0, _, h => absurd h (Nat.not_lt_zero _)
  | N + 1, hN, h => by
    have hm : N % 8 = N := Nat.mod_eq_of_lt (by omega)
    have hc : ch.val % 8 = ch.val := Nat.mod_eq_of_lt ch.isLt
    by_cases e : s.val = N
    · refine (View.read_writes_cons_unit_of_mem arg3.view f _ _ _ (ix3 s q l) (ix3 0 q l) rfl fun a => ?_).trans ?_
      · match a with
        | ⟨0, _⟩ => show s.val = N % 8 + 0; omega
        | ⟨1, _⟩ => show q.val = 0 + q.val; omega
        | ⟨2, _⟩ => show l.val = 0 + l.val; omega
      · refine (slab_cast _ q l).trans ((Memref.IsWhole.readAt_unread harg1 x0 _ _).trans (congrArg x0 ?_))
        funext a
        apply Fin.ext
        match a with
        | ⟨0, _⟩ => rfl
        | ⟨1, _⟩ => show N % 8 + 1 * 0 = s.val; omega
        | ⟨2, _⟩ => show 0 + 1 * l.val = l.val; omega
        | ⟨3, _⟩ => show 256 * (ch.val % 8) + 1 * q.val = 256 * ch.val + q.val; omega
    · refine (View.read_writes_cons_unit_of_not_mem arg3.view f _ _ _ (ix3 s q l) rfl 0 ?_).trans (slabs_apply arg1 harg1 x0 ch B arg3 f s q l N (by omega) (by omega))
      show s.val < N % 8 ∨ N % 8 + 1 ≤ s.val
      omega

/-- The part loaded from a slab, at an entry: eight consecutive columns of the chunk. -/
theorem part_apply (arg1 : Memref sig .tc .vmem S1x8x128x2048 .f32) (harg1 : arg1.IsWhole) (x0 : Vec Ideal S1x8x128x2048 .f32) (ch : Fin 8) (B : List (View.Piece (Elt Ideal) S8x256x128 .f32))
    (arg3 : Memref sig .tc .vmem S8x256x128 .f32) (g : Fin 32) (s q : Fin 8) (l : Fin 128) :
    part arg3 (slabs arg1 (harg1.unread x0) ch B 8) g s (ix2 q l) = x0 (ix4 0 s l ⟨256 * ch.val + (8 * g.val + q.val), by omega⟩) := by
  refine (cast_down _ q l).trans (Eq.trans ?_ (slabs_apply arg1 harg1 x0 ch B arg3 arg3.view.junk s ⟨8 * g.val + q.val, by omega⟩ l 8 le_rfl s.isLt))
  refine congrArg (arg3.view.read (Elt Ideal) _) ?_
  have hs : s.val % 8 = s.val := Nat.mod_eq_of_lt s.isLt
  have hg : g.val % 32 = g.val := Nat.mod_eq_of_lt g.isLt
  funext a
  apply Fin.ext
  match a with
  | ⟨0, _⟩ => show s.val % 8 + 1 * 0 = s.val; omega
  | ⟨1, _⟩ => show 8 * (g.val % 32) + 1 * q.val = 8 * g.val + q.val; omega
  | ⟨2, _⟩ => show 0 + 1 * l.val = l.val; omega

/-- After a chunk's stores, row `n` of the second scratch buffer holds column `n` of the chunk. -/
theorem chunk_apply (arg1 : Memref sig .tc .vmem S1x8x128x2048 .f32) (harg1 : arg1.IsWhole) (x0 : Vec Ideal S1x8x128x2048 .f32) (ch : Fin 8) (B : List (View.Piece (Elt Ideal) S8x256x128 .f32))
    (arg3 : Memref sig .tc .vmem S8x256x128 .f32) (B' : List (View.Piece (Elt Ideal) S256x8x128 .f32))
    (arg4 : Memref sig .tc .vmem S256x8x128 .f32) (f : BufTy.Contents (Elt Ideal) arg4.view.ty) (n : Fin 256) (r : Fin 8) (l : Fin 128) :
    arg4.view.read (Elt Ideal) (arg4.view.writes (Elt Ideal) f (cells arg3 (slabs arg1 (harg1.unread x0) ch B 8) B' 256)) (ix3 n r l)
      = x0 (ix4 0 r l ⟨256 * ch.val + n.val, by omega⟩) := by
  refine (cells_apply arg3 _ B' arg4 f n r l 256 le_rfl n.isLt).trans
    ((part_apply arg1 harg1 x0 ch B arg3 ⟨n.val / 8, by omega⟩ r ⟨n.val % 8, Nat.mod_lt _ (by decide)⟩ l).trans (congrArg x0 ?_))
  refine congrArg (ix4 0 r l) (Fin.ext ?_)
  show 256 * ch.val + (8 * (n.val / 8) + n.val % 8) = 256 * ch.val + n.val
  omega

end Cert.Proof.Kern

end
-- ==== Proof.KernelTrip.lean ====
/-
  One trip of the kernel's loops, read at an entry of its tiles: eight events of the recurrence, whose probabilities are eight consecutive rows of the second scratch buffer.
-/
module

public import proofs.«01_k».proof.Proof.Shuffle
public import proofs.«01_k».proof.Proof.Recur

@[expose] public section

set_option maxRecDepth 16384

noncomputable section

namespace Cert.Proof.Kern

open Idealize.ShloMosaic Idealize.ShloMosaic.TcCoe Idealize.SL.Sem
open Cert.KernelIdeal Cert.KernelIdeal.Gen

local notation "Tile" => FVec Ideal S8x128 FTy.f32

/-- The seventeen tiles that the loop carries. -/
abbrev Tiles : Type :=
  Tile × Tile × Tile × Tile × Tile × Tile × Tile × Tile × Tile × Tile × Tile × Tile × Tile × Tile × Tile × Tile × Tile

/-- The tile of bin `k`. -/
def pick (s : Tiles) (k : Fin 17) : Tile :=
  ![s.1, s.2.1, s.2.2.1, s.2.2.2.1, s.2.2.2.2.1, s.2.2.2.2.2.1, s.2.2.2.2.2.2.1, s.2.2.2.2.2.2.2.1, s.2.2.2.2.2.2.2.2.1, s.2.2.2.2.2.2.2.2.2.1,
    s.2.2.2.2.2.2.2.2.2.2.1, s.2.2.2.2.2.2.2.2.2.2.2.1, s.2.2.2.2.2.2.2.2.2.2.2.2.1, s.2.2.2.2.2.2.2.2.2.2.2.2.2.1, s.2.2.2.2.2.2.2.2.2.2.2.2.2.2.1,
    s.2.2.2.2.2.2.2.2.2.2.2.2.2.2.2.1, s.2.2.2.2.2.2.2.2.2.2.2.2.2.2.2.2] k

/-- What a bin keeps, and what it takes from the bin below, in an event whose probabilities are the tile `p`. -/
def mix (p a b : Tile) : Tile := addf (mulf b (subf k0_pay1203 p)) (mulf a p)

/-- One event on all seventeen tiles. -/
def event (p : Tile) (s : Tiles) : Tiles :=
  (mulf (pick s 0) (subf k0_pay1203 p), mix p (pick s 0) (pick s 1), mix p (pick s 1) (pick s 2), mix p (pick s 2) (pick s 3), mix p (pick s 3) (pick s 4),
    mix p (pick s 4) (pick s 5), mix p (pick s 5) (pick s 6), mix p (pick s 6) (pick s 7), mix p (pick s 7) (pick s 8), mix p (pick s 8) (pick s 9),
    mix p (pick s 9) (pick s 10), mix p (pick s 10) (pick s 11), mix p (pick s 11) (pick s 12), mix p (pick s 12) (pick s 13), mix p (pick s 13) (pick s 14),
    mix p (pick s 14) (pick s 15), addf (mix p (pick s 15) (pick s 16)) (pick s 16))

/-- An event read at an entry: the recurrence's step on the bins of that entry. -/
theorem event_apply (p : Tile) (s : Tiles) (r : Fin 8) (l : Fin 128) (k : Fin 17) :
    pick (event p s) k (ix2 r l) = nextBin (p (ix2 r l)) (fun j => pick s j (ix2 r l)) k := by
  have h1 : (k0_pay1203 (F := Ideal)) (ix2 r l) = (1 : EReal) := by
    pointwise [k0_pay1203]
  have hm : ∀ a b : Tile, mix p a b (ix2 r l) = b (ix2 r l) * (1 - p (ix2 r l)) + a (ix2 r l) * p (ix2 r l) := fun a b => by
    rw [← h1]; rfl
  match k with
  | ⟨0, _⟩ => exact congrArg (fun x => pick s 0 (ix2 r l) * (x - p (ix2 r l))) h1
  | ⟨1, _⟩ => exact hm _ _
  | ⟨2, _⟩ => exact hm _ _
  | ⟨3, _⟩ => exact hm _ _
  | ⟨4, _⟩ => exact hm _ _
  | ⟨5, _⟩ => exact hm _ _
  | ⟨6, _⟩ => exact hm _ _
  | ⟨7, _⟩ => exact hm _ _
  | ⟨8, _⟩ => exact hm _ _
  | ⟨9, _⟩ => exact hm _ _
  | ⟨10, _⟩ => exact hm _ _
  | ⟨11, _⟩ => exact hm _ _
  | ⟨12, _⟩ => exact hm _ _
  | ⟨13, _⟩ => exact hm _ _
  | ⟨14, _⟩ => exact hm _ _
  | ⟨15, _⟩ => exact hm _ _
  | ⟨16, _⟩ => exact congrArg (· + pick s 16 (ix2 r l)) (hm _ _)
  | ⟨n + 17, h⟩ => exact absurd h (by omega)

/-- The tile of row `j` of eight loaded rows. -/
def line (w : FVec Ideal S8x8x128 .f32) (j : Fin 8) : Tile :=
  shapeCast S8x128 (extractStridedSlice S1x8x128 ![j.val, 0, 0] w (by revert j; decide)) shapeCasts_S1x8x128_S8x128

/-- A line at an entry. -/
theorem line_apply (w : FVec Ideal S8x8x128 .f32) (j r : Fin 8) (l : Fin 128) : line w j (ix2 r l) = w (ix3 j r l) := by
  refine (cast_down _ r l).trans (congrArg w ?_)
  funext a
  match a with
  | ⟨0, _⟩ => rfl
  | ⟨1, _⟩ => exact Fin.ext (Nat.zero_add _)
  | ⟨2, _⟩ => exact Fin.ext (Nat.zero_add _)

/-- Eight events, with the eight loaded rows in order. -/
def eight (w : FVec Ideal S8x8x128 .f32) (s : Tiles) : Tiles :=
  event (line w 7) (event (line w 6) (event (line w 5) (event (line w 4) (event (line w 3) (event (line w 2) (event (line w 1) (event (line w 0) s)))))))

variable (𝒱 : Variants) (c : Dev nD) (bd : Option 𝒱.V) (i : grid0.Coords) (arg1 : Memref sig .tc .vmem S1x8x128x2048 .f32) (harg1 : arg1.IsWhole)
  (arg2 : Memref sig .tc .vmem S1x17x8x128 .f32) (harg2 : arg2.IsWhole) (arg3 : Memref sig .tc .vmem S8x256x128 .f32) (harg3 : arg3.IsWhole)
  (arg4 : Memref sig .tc .vmem S256x8x128 .f32) (harg4 : arg4.IsWhole)

/-- Row `j` of the eight rows loaded from row `8 k` of the second scratch buffer on. -/
theorem rows_apply (X : BufTy.Contents (Elt Ideal) arg4.view.ty) (k : ℕ) (hk : k < 32) (off : Fin 3 → ℕ) (ho : off = ![8 * k, 0, 0])
    (inb : ∀ a, off a + S8x8x128.size a ≤ S256x8x128.size a) (j r : Fin 8) (l : Fin 128) :
    View.readAt (Elt Ideal) arg4.view (Rect.unit (s := S256x8x128) off S8x8x128.size inb).toLoadRect X (ix3 j r l)
      = arg4.view.read (Elt Ideal) X (ix3 ⟨8 * k + j.val, by omega⟩ r l) := by
  subst ho
  refine congrArg (arg4.view.read (Elt Ideal) X) ?_
  funext a
  apply Fin.ext
  match a with
  | ⟨0, _⟩ => show 8 * k + 1 * j.val = 8 * k + j.val; omega
  | ⟨1, _⟩ => show 0 + 1 * r.val = r.val; omega
  | ⟨2, _⟩ => show 0 + 1 * l.val = l.val; omega

/-- A loop of 32 trips of eight events, read at an entry whose probabilities the second scratch buffer holds from number `b` on. -/
theorem loop_bins (P : ℕ → EReal) (b : ℕ) (r : Fin 8) (l : Fin 128) (X : BufTy.Contents (Elt Ideal) arg4.view.ty)
    (hX : ∀ n : Fin 256, arg4.view.read (Elt Ideal) X (ix3 n r l) = P (b + n.val)) (st : ℕ → Tiles)
    (hst : ∀ k < 32, ∃ off inb, off = ![8 * k, 0, 0] ∧ st (k + 1)
      = eight (View.readAt (Elt Ideal) arg4.view (Rect.unit (s := S256x8x128) off S8x8x128.size inb).toLoadRect X) (st k))
    (h0 : ∀ j, pick (st 0) j (ix2 r l) = bins P b j) : ∀ n ≤ 32, ∀ j, pick (st n) j (ix2 r l) = bins P (b + 8 * n) j
  | 0, _, j => h0 j
  | n + 1, hn, j => by
    have ih := funext (loop_bins P b r l X hX st hst h0 n (by omega))
    obtain ⟨off, inb, ho, e⟩ := hst n (by omega)
    have hp : ∀ q : Fin 8, View.readAt (Elt Ideal) arg4.view (Rect.unit (s := S256x8x128) off S8x8x128.size inb).toLoadRect X (ix3 q r l) = P (b + 8 * n + q.val) := fun q => by
      rw [rows_apply arg4 X n (by omega) off ho inb q r l, hX]
      exact congrArg P (by show b + (8 * n + q.val) = b + 8 * n + q.val; omega)
    rw [e]
    unfold eight
    rw [event_apply, line_apply, hp]
    simp only [event_apply, line_apply, hp]
    rw [ih]
    rfl

/-- A trip of the first loop is eight events, with the eight loaded rows in order. -/
theorem trip1 (a0 a1 a2 a3 a4 a5 a6 a7 a8 : FVec Ideal S8x128 .f32)
    (X : BufTy.Contents (Elt Ideal) arg4.view.ty) (k : Fin k0_t1_loop.trips) (s : Tiles) :
    tripR_k0_t1 (F := Ideal) 𝒱 c bd i arg1 harg1 arg2 harg2 arg3 harg3 arg4 harg4 a0 a1 a2 a3 a4 a5 a6 a7 a8 X k s
      = eight (View.readAt (Elt Ideal) arg4.view (Rect.unit (s := S256x8x128) (k0_off1 k) S8x8x128.size (k0_off1_inb k)).toLoadRect X) s := by
  unfold tripR_k0_t1 trip_k0_t1
  sl_kernel_rfl

/-- The first loop, read at an entry: from the bins after `b` events to the bins after `b + 256` events. -/
theorem loop1 (a0 a1 a2 a3 a4 a5 a6 a7 a8 : FVec Ideal S8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t1 (F := Ideal) 𝒱 c bd i arg1 harg1 arg2 harg2 arg3 harg3 arg4 harg4 a0 a1 a2 a3 a4 a5 a6 a7 a8 X s 32) j (ix2 r l) = bins P (b + 256) j :=
  loop_bins arg4 P b r l X hX (fun n => st_k0_t1 (F := Ideal) 𝒱 c bd i arg1 harg1 arg2 harg2 arg3 harg3 arg4 harg4 a0 a1 a2 a3 a4 a5 a6 a7 a8 X s n)
    (fun k hk => ⟨k0_off1 ⟨k, hk⟩, k0_off1_inb ⟨k, hk⟩, k0_off1_eq ⟨k, hk⟩, (st_k0_t1_succ (F := Ideal) 𝒱 c bd i arg1 harg1 arg2 harg2 arg3 harg3 arg4 harg4 a0 a1 a2 a3 a4 a5 a6 a7 a8 X s ⟨k, hk⟩).trans
      (trip1 𝒱 c bd i arg1 harg1 arg2 harg2 arg3 harg3 arg4 harg4 a0 a1 a2 a3 a4 a5 a6 a7 a8 X ⟨k, hk⟩ _)⟩)
    h0 32 le_rfl j

/-- A trip of the second loop is eight events, with the eight loaded rows in order. -/
theorem trip2 (a0 a1 a2 a3 a4 a5 a6 a7 a8 a9 a10 a11 a12 a13 a14 a15 a16 a17 a18 a19 a20 a21 : FVec Ideal S8x128 .f32)
    (X : BufTy.Contents (Elt Ideal) arg4.view.ty) (k : Fin k0_t2_loop.trips) (s : Tiles) :
    tripR_k0_t2 (F := Ideal) 𝒱 c bd i arg1 harg1 arg2 harg2 arg3 harg3 arg4 harg4 a0 a1 a2 a3 a4 a5 a6 a7 a8 a9 a10 a11 a12 a13 a14 a15 a16 a17 a18 a19 a20 a21 X k s
      = eight (View.readAt (Elt Ideal) arg4.view (Rect.unit (s := S256x8x128) (k0_off2 k) S8x8x128.size (k0_off2_inb k)).toLoadRect X) s := by
  unfold tripR_k0_t2 trip_k0_t2
  sl_kernel_rfl

/-- The second loop, read at an entry: from the bins after `b` events to the bins after `b + 256` events. -/
theorem loop2 (a0 a1 a2 a3 a4 a5 a6 a7 a8 a9 a10 a11 a12 a13 a14 a15 a16 a17 a18 a19 a20 a21 : FVec Ideal S8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t2 (F := Ideal) 𝒱 c bd i arg1 harg1 arg2 harg2 arg3 harg3 arg4 harg4 a0 a1 a2 a3 a4 a5 a6 a7 a8 a9 a10 a11 a12 a13 a14 a15 a16 a17 a18 a19 a20 a21 X s 32) j (ix2 r l) = bins P (b + 256) j :=
  loop_bins arg4 P b r l X hX (fun n => st_k0_t2 (F := Ideal) 𝒱 c bd i arg1 harg1 arg2 harg2 arg3 harg3 arg4 harg4 a0 a1 a2 a3 a4 a5 a6 a7 a8 a9 a10 a11 a12 a13 a14 a15 a16 a17 a18 a19 a20 a21 X s n)
    (fun k hk => ⟨k0_off2 ⟨k, hk⟩, k0_off2_inb ⟨k, hk⟩, k0_off2_eq ⟨k, hk⟩, (st_k0_t2_succ (F := Ideal) 𝒱 c bd i arg1 harg1 arg2 harg2 arg3 harg3 arg4 harg4 a0 a1 a2 a3 a4 a5 a6 a7 a8 a9 a10 a11 a12 a13 a14 a15 a16 a17 a18 a19 a20 a21 X s ⟨k, hk⟩).trans
      (trip2 𝒱 c bd i arg1 harg1 arg2 harg2 arg3 harg3 arg4 harg4 a0 a1 a2 a3 a4 a5 a6 a7 a8 a9 a10 a11 a12 a13 a14 a15 a16 a17 a18 a19 a20 a21 X ⟨k, hk⟩ _)⟩)
    h0 32 le_rfl j

/-- A trip of the third loop is eight events, with the eight loaded rows in order. -/
theorem trip3 (a0 a1 a2 a3 a4 a5 a6 a7 a8 a9 a10 a11 a12 a13 a14 a15 a16 a17 a18 a19 : FVec Ideal S8x128 .f32)
    (X : BufTy.Contents (Elt Ideal) arg4.view.ty) (k : Fin k0_t3_loop.trips) (s : Tiles) :
    tripR_k0_t3 (F := Ideal) 𝒱 c bd i arg1 harg1 arg2 harg2 arg3 harg3 arg4 harg4 a0 a1 a2 a3 a4 a5 a6 a7 a8 a9 a10 a11 a12 a13 a14 a15 a16 a17 a18 a19 X k s
      = eight (View.readAt (Elt Ideal) arg4.view (Rect.unit (s := S256x8x128) (k0_off3 k) S8x8x128.size (k0_off3_inb k)).toLoadRect X) s := by
  unfold tripR_k0_t3 trip_k0_t3
  sl_kernel_rfl

/-- The third loop, read at an entry: from the bins after `b` events to the bins after `b + 256` events. -/
theorem loop3 (a0 a1 a2 a3 a4 a5 a6 a7 a8 a9 a10 a11 a12 a13 a14 a15 a16 a17 a18 a19 : FVec Ideal S8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t3 (F := Ideal) 𝒱 c bd i arg1 harg1 arg2 harg2 arg3 harg3 arg4 harg4 a0 a1 a2 a3 a4 a5 a6 a7 a8 a9 a10 a11 a12 a13 a14 a15 a16 a17 a18 a19 X s 32) j (ix2 r l) = bins P (b + 256) j :=
  loop_bins arg4 P b r l X hX (fun n => st_k0_t3 (F := Ideal) 𝒱 c bd i arg1 harg1 arg2 harg2 arg3 harg3 arg4 harg4 a0 a1 a2 a3 a4 a5 a6 a7 a8 a9 a10 a11 a12 a13 a14 a15 a16 a17 a18 a19 X s n)
    (fun k hk => ⟨k0_off3 ⟨k, hk⟩, k0_off3_inb ⟨k, hk⟩, k0_off3_eq ⟨k, hk⟩, (st_k0_t3_succ (F := Ideal) 𝒱 c bd i arg1 harg1 arg2 harg2 arg3 harg3 arg4 harg4 a0 a1 a2 a3 a4 a5 a6 a7 a8 a9 a10 a11 a12 a13 a14 a15 a16 a17 a18 a19 X s ⟨k, hk⟩).trans
      (trip3 𝒱 c bd i arg1 harg1 arg2 harg2 arg3 harg3 arg4 harg4 a0 a1 a2 a3 a4 a5 a6 a7 a8 a9 a10 a11 a12 a13 a14 a15 a16 a17 a18 a19 X ⟨k, hk⟩ _)⟩)
    h0 32 le_rfl j

/-- A trip of the fourth loop is eight events, with the eight loaded rows in order. -/
theorem trip4 (a0 a1 a2 a3 a4 a5 a6 a7 a8 a9 a10 a11 a12 a13 a14 a15 a16 a17 : FVec Ideal S8x128 .f32)
    (X : BufTy.Contents (Elt Ideal) arg4.view.ty) (k : Fin k0_t4_loop.trips) (s : Tiles) :
    tripR_k0_t4 (F := Ideal) 𝒱 c bd i arg1 harg1 arg2 harg2 arg3 harg3 arg4 harg4 a0 a1 a2 a3 a4 a5 a6 a7 a8 a9 a10 a11 a12 a13 a14 a15 a16 a17 X k s
      = eight (View.readAt (Elt Ideal) arg4.view (Rect.unit (s := S256x8x128) (k0_off4 k) S8x8x128.size (k0_off4_inb k)).toLoadRect X) s := by
  unfold tripR_k0_t4 trip_k0_t4
  sl_kernel_rfl

/-- The fourth loop, read at an entry: from the bins after `b` events to the bins after `b + 256` events. -/
theorem loop4 (a0 a1 a2 a3 a4 a5 a6 a7 a8 a9 a10 a11 a12 a13 a14 a15 a16 a17 : FVec Ideal S8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t4 (F := Ideal) 𝒱 c bd i arg1 harg1 arg2 harg2 arg3 harg3 arg4 harg4 a0 a1 a2 a3 a4 a5 a6 a7 a8 a9 a10 a11 a12 a13 a14 a15 a16 a17 X s 32) j (ix2 r l) = bins P (b + 256) j :=
  loop_bins arg4 P b r l X hX (fun n => st_k0_t4 (F := Ideal) 𝒱 c bd i arg1 harg1 arg2 harg2 arg3 harg3 arg4 harg4 a0 a1 a2 a3 a4 a5 a6 a7 a8 a9 a10 a11 a12 a13 a14 a15 a16 a17 X s n)
    (fun k hk => ⟨k0_off4 ⟨k, hk⟩, k0_off4_inb ⟨k, hk⟩, k0_off4_eq ⟨k, hk⟩, (st_k0_t4_succ (F := Ideal) 𝒱 c bd i arg1 harg1 arg2 harg2 arg3 harg3 arg4 harg4 a0 a1 a2 a3 a4 a5 a6 a7 a8 a9 a10 a11 a12 a13 a14 a15 a16 a17 X s ⟨k, hk⟩).trans
      (trip4 𝒱 c bd i arg1 harg1 arg2 harg2 arg3 harg3 arg4 harg4 a0 a1 a2 a3 a4 a5 a6 a7 a8 a9 a10 a11 a12 a13 a14 a15 a16 a17 X ⟨k, hk⟩ _)⟩)
    h0 32 le_rfl j

/-- A trip of the fifth loop is eight events, with the eight loaded rows in order. -/
theorem trip5 (a0 a1 a2 a3 a4 a5 a6 a7 a8 a9 a10 a11 a12 a13 a14 a15 a16 a17 a18 a19 a20 a21 a22 a23 : FVec Ideal S8x128 .f32) (a24 : FVec Ideal S1x8x128 .f32)
    (X : BufTy.Contents (Elt Ideal) arg4.view.ty) (k : Fin k0_t5_loop.trips) (s : Tiles) :
    tripR_k0_t5 (F := Ideal) 𝒱 c bd i arg1 harg1 arg2 harg2 arg3 harg3 arg4 harg4 a0 a1 a2 a3 a4 a5 a6 a7 a8 a9 a10 a11 a12 a13 a14 a15 a16 a17 a18 a19 a20 a21 a22 a23 a24 X k s
      = eight (View.readAt (Elt Ideal) arg4.view (Rect.unit (s := S256x8x128) (k0_off5 k) S8x8x128.size (k0_off5_inb k)).toLoadRect X) s := by
  unfold tripR_k0_t5 trip_k0_t5
  sl_kernel_rfl

/-- The fifth loop, read at an entry: from the bins after `b` events to the bins after `b + 256` events. -/
theorem loop5 (a0 a1 a2 a3 a4 a5 a6 a7 a8 a9 a10 a11 a12 a13 a14 a15 a16 a17 a18 a19 a20 a21 a22 a23 : FVec Ideal S8x128 .f32) (a24 : FVec Ideal S1x8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t5 (F := Ideal) 𝒱 c bd i arg1 harg1 arg2 harg2 arg3 harg3 arg4 harg4 a0 a1 a2 a3 a4 a5 a6 a7 a8 a9 a10 a11 a12 a13 a14 a15 a16 a17 a18 a19 a20 a21 a22 a23 a24 X s 32) j (ix2 r l) = bins P (b + 256) j :=
  loop_bins arg4 P b r l X hX (fun n => st_k0_t5 (F := Ideal) 𝒱 c bd i arg1 harg1 arg2 harg2 arg3 harg3 arg4 harg4 a0 a1 a2 a3 a4 a5 a6 a7 a8 a9 a10 a11 a12 a13 a14 a15 a16 a17 a18 a19 a20 a21 a22 a23 a24 X s n)
    (fun k hk => ⟨k0_off5 ⟨k, hk⟩, k0_off5_inb ⟨k, hk⟩, k0_off5_eq ⟨k, hk⟩, (st_k0_t5_succ (F := Ideal) 𝒱 c bd i arg1 harg1 arg2 harg2 arg3 harg3 arg4 harg4 a0 a1 a2 a3 a4 a5 a6 a7 a8 a9 a10 a11 a12 a13 a14 a15 a16 a17 a18 a19 a20 a21 a22 a23 a24 X s ⟨k, hk⟩).trans
      (trip5 𝒱 c bd i arg1 harg1 arg2 harg2 arg3 harg3 arg4 harg4 a0 a1 a2 a3 a4 a5 a6 a7 a8 a9 a10 a11 a12 a13 a14 a15 a16 a17 a18 a19 a20 a21 a22 a23 a24 X ⟨k, hk⟩ _)⟩)
    h0 32 le_rfl j

/-- A trip of the sixth loop is eight events, with the eight loaded rows in order. -/
theorem trip6 (a0 a1 a2 a3 a4 a5 a6 a7 a8 a9 a10 a11 a12 a13 a14 a15 a16 a17 a18 a19 a20 a21 : FVec Ideal S8x128 .f32) (a22 : FVec Ideal S1x8x128 .f32)
    (X : BufTy.Contents (Elt Ideal) arg4.view.ty) (k : Fin k0_t6_loop.trips) (s : Tiles) :
    tripR_k0_t6 (F := Ideal) 𝒱 c bd i arg1 harg1 arg2 harg2 arg3 harg3 arg4 harg4 a0 a1 a2 a3 a4 a5 a6 a7 a8 a9 a10 a11 a12 a13 a14 a15 a16 a17 a18 a19 a20 a21 a22 X k s
      = eight (View.readAt (Elt Ideal) arg4.view (Rect.unit (s := S256x8x128) (k0_off6 k) S8x8x128.size (k0_off6_inb k)).toLoadRect X) s := by
  unfold tripR_k0_t6 trip_k0_t6
  sl_kernel_rfl

/-- The sixth loop, read at an entry: from the bins after `b` events to the bins after `b + 256` events. -/
theorem loop6 (a0 a1 a2 a3 a4 a5 a6 a7 a8 a9 a10 a11 a12 a13 a14 a15 a16 a17 a18 a19 a20 a21 : FVec Ideal S8x128 .f32) (a22 : FVec Ideal S1x8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t6 (F := Ideal) 𝒱 c bd i arg1 harg1 arg2 harg2 arg3 harg3 arg4 harg4 a0 a1 a2 a3 a4 a5 a6 a7 a8 a9 a10 a11 a12 a13 a14 a15 a16 a17 a18 a19 a20 a21 a22 X s 32) j (ix2 r l) = bins P (b + 256) j :=
  loop_bins arg4 P b r l X hX (fun n => st_k0_t6 (F := Ideal) 𝒱 c bd i arg1 harg1 arg2 harg2 arg3 harg3 arg4 harg4 a0 a1 a2 a3 a4 a5 a6 a7 a8 a9 a10 a11 a12 a13 a14 a15 a16 a17 a18 a19 a20 a21 a22 X s n)
    (fun k hk => ⟨k0_off6 ⟨k, hk⟩, k0_off6_inb ⟨k, hk⟩, k0_off6_eq ⟨k, hk⟩, (st_k0_t6_succ (F := Ideal) 𝒱 c bd i arg1 harg1 arg2 harg2 arg3 harg3 arg4 harg4 a0 a1 a2 a3 a4 a5 a6 a7 a8 a9 a10 a11 a12 a13 a14 a15 a16 a17 a18 a19 a20 a21 a22 X s ⟨k, hk⟩).trans
      (trip6 𝒱 c bd i arg1 harg1 arg2 harg2 arg3 harg3 arg4 harg4 a0 a1 a2 a3 a4 a5 a6 a7 a8 a9 a10 a11 a12 a13 a14 a15 a16 a17 a18 a19 a20 a21 a22 X ⟨k, hk⟩ _)⟩)
    h0 32 le_rfl j

/-- A trip of the seventh loop is eight events, with the eight loaded rows in order. -/
theorem trip7 (a0 a1 a2 a3 a4 a5 a6 a7 a8 a9 a10 a11 a12 a13 a14 a15 a16 a17 a18 a19 : FVec Ideal S8x128 .f32) (a20 : FVec Ideal S1x8x128 .f32)
    (X : BufTy.Contents (Elt Ideal) arg4.view.ty) (k : Fin k0_t7_loop.trips) (s : Tiles) :
    tripR_k0_t7 (F := Ideal) 𝒱 c bd i arg1 harg1 arg2 harg2 arg3 harg3 arg4 harg4 a0 a1 a2 a3 a4 a5 a6 a7 a8 a9 a10 a11 a12 a13 a14 a15 a16 a17 a18 a19 a20 X k s
      = eight (View.readAt (Elt Ideal) arg4.view (Rect.unit (s := S256x8x128) (k0_off7 k) S8x8x128.size (k0_off7_inb k)).toLoadRect X) s := by
  unfold tripR_k0_t7 trip_k0_t7
  sl_kernel_rfl

/-- The seventh loop, read at an entry: from the bins after `b` events to the bins after `b + 256` events. -/
theorem loop7 (a0 a1 a2 a3 a4 a5 a6 a7 a8 a9 a10 a11 a12 a13 a14 a15 a16 a17 a18 a19 : FVec Ideal S8x128 .f32) (a20 : FVec Ideal S1x8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t7 (F := Ideal) 𝒱 c bd i arg1 harg1 arg2 harg2 arg3 harg3 arg4 harg4 a0 a1 a2 a3 a4 a5 a6 a7 a8 a9 a10 a11 a12 a13 a14 a15 a16 a17 a18 a19 a20 X s 32) j (ix2 r l) = bins P (b + 256) j :=
  loop_bins arg4 P b r l X hX (fun n => st_k0_t7 (F := Ideal) 𝒱 c bd i arg1 harg1 arg2 harg2 arg3 harg3 arg4 harg4 a0 a1 a2 a3 a4 a5 a6 a7 a8 a9 a10 a11 a12 a13 a14 a15 a16 a17 a18 a19 a20 X s n)
    (fun k hk => ⟨k0_off7 ⟨k, hk⟩, k0_off7_inb ⟨k, hk⟩, k0_off7_eq ⟨k, hk⟩, (st_k0_t7_succ (F := Ideal) 𝒱 c bd i arg1 harg1 arg2 harg2 arg3 harg3 arg4 harg4 a0 a1 a2 a3 a4 a5 a6 a7 a8 a9 a10 a11 a12 a13 a14 a15 a16 a17 a18 a19 a20 X s ⟨k, hk⟩).trans
      (trip7 𝒱 c bd i arg1 harg1 arg2 harg2 arg3 harg3 arg4 harg4 a0 a1 a2 a3 a4 a5 a6 a7 a8 a9 a10 a11 a12 a13 a14 a15 a16 a17 a18 a19 a20 X ⟨k, hk⟩ _)⟩)
    h0 32 le_rfl j

/-- A trip of the eighth loop is eight events, with the eight loaded rows in order. -/
theorem trip8 (a0 a1 a2 a3 a4 a5 a6 a7 a8 a9 a10 a11 a12 a13 a14 a15 a16 a17 : FVec Ideal S8x128 .f32) (a18 : FVec Ideal S1x8x128 .f32)
    (X : BufTy.Contents (Elt Ideal) arg4.view.ty) (k : Fin k0_t8_loop.trips) (s : Tiles) :
    tripR_k0_t8 (F := Ideal) 𝒱 c bd i arg1 harg1 arg2 harg2 arg3 harg3 arg4 harg4 a0 a1 a2 a3 a4 a5 a6 a7 a8 a9 a10 a11 a12 a13 a14 a15 a16 a17 a18 X k s
      = eight (View.readAt (Elt Ideal) arg4.view (Rect.unit (s := S256x8x128) (k0_off8 k) S8x8x128.size (k0_off8_inb k)).toLoadRect X) s := by
  unfold tripR_k0_t8 trip_k0_t8
  sl_kernel_rfl

/-- The eighth loop, read at an entry: from the bins after `b` events to the bins after `b + 256` events. -/
theorem loop8 (a0 a1 a2 a3 a4 a5 a6 a7 a8 a9 a10 a11 a12 a13 a14 a15 a16 a17 : FVec Ideal S8x128 .f32) (a18 : FVec Ideal S1x8x128 .f32)
    (X : BufTy.Contents (Elt Ideal) arg4.view.ty) (s : Tiles) (P : ℕ → EReal) (b : ℕ) (r : Fin 8) (l : Fin 128)
    (hX : ∀ n : Fin 256, arg4.view.read (Elt Ideal) X (ix3 n r l) = P (b + n.val)) (h0 : ∀ j, pick s j (ix2 r l) = bins P b j) (j : Fin 17) :
    pick (st_k0_t8 (F := Ideal) 𝒱 c bd i arg1 harg1 arg2 harg2 arg3 harg3 arg4 harg4 a0 a1 a2 a3 a4 a5 a6 a7 a8 a9 a10 a11 a12 a13 a14 a15 a16 a17 a18 X s 32) j (ix2 r l) = bins P (b + 256) j :=
  loop_bins arg4 P b r l X hX (fun n => st_k0_t8 (F := Ideal) 𝒱 c bd i arg1 harg1 arg2 harg2 arg3 harg3 arg4 harg4 a0 a1 a2 a3 a4 a5 a6 a7 a8 a9 a10 a11 a12 a13 a14 a15 a16 a17 a18 X s n)
    (fun k hk => ⟨k0_off8 ⟨k, hk⟩, k0_off8_inb ⟨k, hk⟩, k0_off8_eq ⟨k, hk⟩, (st_k0_t8_succ (F := Ideal) 𝒱 c bd i arg1 harg1 arg2 harg2 arg3 harg3 arg4 harg4 a0 a1 a2 a3 a4 a5 a6 a7 a8 a9 a10 a11 a12 a13 a14 a15 a16 a17 a18 X s ⟨k, hk⟩).trans
      (trip8 𝒱 c bd i arg1 harg1 arg2 harg2 arg3 harg3 arg4 harg4 a0 a1 a2 a3 a4 a5 a6 a7 a8 a9 a10 a11 a12 a13 a14 a15 a16 a17 a18 X ⟨k, hk⟩ _)⟩)
    h0 32 le_rfl j

end Cert.Proof.Kern

end
-- ==== Proof.Chunks.lean ====
/-
  The eight chunks of 256 columns one after another: after each of them the carried tiles hold, entry by entry, the bins after as many events.
-/
module

public import proofs.«01_k».proof.Proof.KernelTrip

@[expose] public section

set_option maxRecDepth 16384

noncomputable section

namespace Cert.Proof.Kern

open Idealize.ShloMosaic Idealize.ShloMosaic.TcCoe Idealize.SL.Sem
open Cert.KernelIdeal Cert.KernelIdeal.Gen Cert.KernelIdeal.Gen.kernelRun0_A.sl

/-- The probabilities of one entry of the tiles, in the block's order of columns. -/
def probsAt (x0 : Vec Ideal S1x8x128x2048 .f32) (r : Fin 8) (l : Fin 128) (t : ℕ) : EReal :=
  if h : t < 2048 then x0 (ix4 0 r l ⟨t, h⟩) else 0

variable (c : Dev nD) (i : grid0.Coords) (arg1 : Memref sig .tc .vmem S1x8x128x2048 .f32) (harg1 : arg1.IsWhole)
  (arg2 : Memref sig .tc .vmem S1x17x8x128 .f32) (harg2 : arg2.IsWhole) (arg3 : Memref sig .tc .vmem S8x256x128 .f32) (harg3 : arg3.IsWhole)
  (arg4 : Memref sig .tc .vmem S256x8x128 .f32) (harg4 : arg4.IsWhole) (x0 : Vec Ideal S1x8x128x2048 .f32) (r : Fin 8) (l : Fin 128)

/-- A list of stores that ends a chunk's shuffle holds the chunk's probabilities, row by row. -/
theorem chunk_probs (ch : Fin 8) (L : List (View.Piece (Elt Ideal) S256x8x128 .f32)) (B : List (View.Piece (Elt Ideal) S8x256x128 .f32))
    (hL : L = cells arg3 (slabs arg1 (harg1.unread x0) ch B 8) (L.drop 256) 256) (n : Fin 256) :
    arg4.view.read (Elt Ideal) (arg4.view.writes (Elt Ideal) arg4.view.junk L) (ix3 n r l) = probsAt x0 r l (256 * ch.val + n.val) := by
  rw [hL, chunk_apply arg1 harg1 x0 ch B arg3 _ arg4 _ n r l]
  unfold probsAt
  rw [dif_pos (show 256 * ch.val + n.val < 2048 by omega)]

/-- Before any event, one tile of ones and sixteen of zeros. -/
theorem after0 (j : Fin 17) : pick (k0_pay1203, k0_pay1202, k0_pay1202, k0_pay1202, k0_pay1202, k0_pay1202, k0_pay1202, k0_pay1202, k0_pay1202, k0_pay1202, k0_pay1202, k0_pay1202, k0_pay1202, k0_pay1202, k0_pay1202, k0_pay1202, k0_pay1202) j (ix2 r l)
    = bins (probsAt x0 r l) 0 j := by
  have h1 : (k0_pay1203 (F := Ideal)) (ix2 r l) = (1 : EReal) := by pointwise [k0_pay1203]
  have h0 : (k0_pay1202 (F := Ideal)) (ix2 r l) = (0 : EReal) := by pointwise [k0_pay1202]
  match j with
  | ⟨0, _⟩ => exact h1
  | ⟨1, _⟩ | ⟨2, _⟩ | ⟨3, _⟩ | ⟨4, _⟩ | ⟨5, _⟩ | ⟨6, _⟩ | ⟨7, _⟩ | ⟨8, _⟩ | ⟨9, _⟩ | ⟨10, _⟩ | ⟨11, _⟩ | ⟨12, _⟩ | ⟨13, _⟩ | ⟨14, _⟩ | ⟨15, _⟩ | ⟨16, _⟩ => exact h0
  | ⟨n + 17, h⟩ => exact absurd h (by omega)

/-- After the first chunk the tiles hold the bins after 256 events. -/
theorem after1 (j : Fin 17) : pick (r_1 c i arg1 harg1 arg2 harg2 arg3 harg3 arg4 harg4 x0, r_2 c i arg1 harg1 arg2 harg2 arg3 harg3 arg4 harg4 x0, r_3 c i arg1 harg1 arg2 harg2 arg3 harg3 arg4 harg4 x0, r_4 c i arg1 harg1 arg2 harg2 arg3 harg3 arg4 harg4 x0, r_5 c i arg1 harg1 arg2 harg2 arg3 harg3 arg4 harg4 x0, r_6 c i arg1 harg1 arg2 harg2 arg3 harg3 arg4 harg4 x0, r_7 c i arg1 harg1 arg2 harg2 arg3 harg3 arg4 harg4 x0, r_8 c i arg1 harg1 arg2 harg2 arg3 harg3 arg4 harg4 x0, r_9 c i arg1 harg1 arg2 harg2 arg3 harg3 arg4 harg4 x0, r_10 c i arg1 harg1 arg2 harg2 arg3 harg3 arg4 harg4 x0, r_11 c i arg1 harg1 arg2 harg2 arg3 harg3 arg4 harg4 x0, r_12 c i arg1 harg1 arg2 harg2 arg3 harg3 arg4 harg4 x0, r_13 c i arg1 harg1 arg2 harg2 arg3 harg3 arg4 harg4 x0, r_14 c i arg1 harg1 arg2 harg2 arg3 harg3 arg4 harg4 x0, r_15 c i arg1 harg1 arg2 harg2 arg3 harg3 arg4 harg4 x0, r_16 c i arg1 harg1 arg2 harg2 arg3 harg3 arg4 harg4 x0, r_17 c i arg1 harg1 arg2 harg2 arg3 harg3 arg4 harg4 x0) j (ix2 r l)
    = bins (probsAt x0 r l) 256 j := by
  refine loop1 Variants.none c none i arg1 harg1 arg2 harg2 arg3 harg3 arg4 harg4 _ _ _ _ _ _ _ _ _ _ _ (probsAt x0 r l) 0 r l ?_ (after0 x0 r l) j
  refine chunk_probs arg1 harg1 arg3 arg4 x0 r l 0 _ [] ?_
  sl_kernel_rfl

/-- After the second chunk the tiles hold the bins after 512 events. -/
theorem after2 (j : Fin 17) : pick (r_19 c i arg1 harg1 arg2 harg2 arg3 harg3 arg4 harg4 x0, r_20 c i arg1 harg1 arg2 harg2 arg3 harg3 arg4 harg4 x0, r_21 c i arg1 harg1 arg2 harg2 arg3 harg3 arg4 harg4 x0, r_22 c i arg1 harg1 arg2 harg2 arg3 harg3 arg4 harg4 x0, r_23 c i arg1 harg1 arg2 harg2 arg3 harg3 arg4 harg4 x0, r_24 c i arg1 harg1 arg2 harg2 arg3 harg3 arg4 harg4 x0, r_25 c i arg1 harg1 arg2 harg2 arg3 harg3 arg4 harg4 x0, r_26 c i arg1 harg1 arg2 harg2 arg3 harg3 arg4 harg4 x0, r_27 c i arg1 harg1 arg2 harg2 arg3 harg3 arg4 harg4 x0, r_28 c i arg1 harg1 arg2 harg2 arg3 harg3 arg4 harg4 x0, r_29 c i arg1 harg1 arg2 harg2 arg3 harg3 arg4 harg4 x0, r_30 c i arg1 harg1 arg2 harg2 arg3 harg3 arg4 harg4 x0, r_31 c i arg1 harg1 arg2 harg2 arg3 harg3 arg4 harg4 x0, r_32 c i arg1 harg1 arg2 harg2 arg3 harg3 arg4 harg4 x0, r_33 c i arg1 harg1 arg2 harg2 arg3 harg3 arg4 harg4 x0, r_34 c i arg1 harg1 arg2 harg2 arg3 harg3 arg4 harg4 x0, r_35 c i arg1 harg1 arg2 harg2 arg3 harg3 arg4 harg4 x0) j (ix2 r l)
    = bins (probsAt x0 r l) 512 j := by
  refine loop2 Variants.none c none i arg1 harg1 arg2 harg2 arg3 harg3 arg4 harg4 _ _ _ _ _ _ _ _ _ _ _ _ _ _ _ _ _ _ _ _ _ _ _ _ (probsAt x0 r l) 256 r l ?_ (after1 c i arg1 harg1 arg2 harg2 arg3 harg3 arg4 harg4 x0 r l) j
  refine chunk_probs arg1 harg1 arg3 arg4 x0 r l 1 _ (HS0_8 c arg1 harg1 x0) ?_
  sl_kernel_rfl

/-- After the third chunk the tiles hold the bins after 768 events. -/
theorem after3 (j : Fin 17) : pick (r_37 c i arg1 harg1 arg2 harg2 arg3 harg3 arg4 harg4 x0, r_38 c i arg1 harg1 arg2 harg2 arg3 harg3 arg4 harg4 x0, r_39 c i arg1 harg1 arg2 harg2 arg3 harg3 arg4 harg4 x0, r_40 c i arg1 harg1 arg2 harg2 arg3 harg3 arg4 harg4 x0, r_41 c i arg1 harg1 arg2 harg2 arg3 harg3 arg4 harg4 x0, r_42 c i arg1 harg1 arg2 harg2 arg3 harg3 arg4 harg4 x0, r_43 c i arg1 harg1 arg2 harg2 arg3 harg3 arg4 harg4 x0, r_44 c i arg1 harg1 arg2 harg2 arg3 harg3 arg4 harg4 x0, r_45 c i arg1 harg1 arg2 harg2 arg3 harg3 arg4 harg4 x0, r_46 c i arg1 harg1 arg2 harg2 arg3 harg3 arg4 harg4 x0, r_47 c i arg1 harg1 arg2 harg2 arg3 harg3 arg4 harg4 x0, r_48 c i arg1 harg1 arg2 harg2 arg3 harg3 arg4 harg4 x0, r_49 c i arg1 harg1 arg2 harg2 arg3 harg3 arg4 harg4 x0, r_50 c i arg1 harg1 arg2 harg2 arg3 harg3 arg4 harg4 x0, r_51 c i arg1 harg1 arg2 harg2 arg3 harg3 arg4 harg4 x0, r_52 c i arg1 harg1 arg2 harg2 arg3 harg3 arg4 harg4 x0, r_53 c i arg1 harg1 arg2 harg2 arg3 harg3 arg4 harg4 x0) j (ix2 r l)
    = bins (probsAt x0 r l) 768 j := by
  refine loop3 Variants.none c none i arg1 harg1 arg2 harg2 arg3 harg3 arg4 harg4 _ _ _ _ _ _ _ _ _ _ _ _ _ _ _ _ _ _ _ _ _ _ (probsAt x0 r l) 512 r l ?_ (after2 c i arg1 harg1 arg2 harg2 arg3 harg3 arg4 harg4 x0 r l) j
  refine chunk_probs arg1 harg1 arg3 arg4 x0 r l 2 _ (HS0_16 c arg1 harg1 x0) ?_
  sl_kernel_rfl

/-- After the fourth chunk the tiles hold the bins after 1024 events. -/
theorem after4 (j : Fin 17) : pick (r_55 c i arg1 harg1 arg2 harg2 arg3 harg3 arg4 harg4 x0, r_56 c i arg1 harg1 arg2 harg2 arg3 harg3 arg4 harg4 x0, r_57 c i arg1 harg1 arg2 harg2 arg3 harg3 arg4 harg4 x0, r_58 c i arg1 harg1 arg2 harg2 arg3 harg3 arg4 harg4 x0, r_59 c i arg1 harg1 arg2 harg2 arg3 harg3 arg4 harg4 x0, r_60 c i arg1 harg1 arg2 harg2 arg3 harg3 arg4 harg4 x0, r_61 c i arg1 harg1 arg2 harg2 arg3 harg3 arg4 harg4 x0, r_62 c i arg1 harg1 arg2 harg2 arg3 harg3 arg4 harg4 x0, r_63 c i arg1 harg1 arg2 harg2 arg3 harg3 arg4 harg4 x0, r_64 c i arg1 harg1 arg2 harg2 arg3 harg3 arg4 harg4 x0, r_65 c i arg1 harg1 arg2 harg2 arg3 harg3 arg4 harg4 x0, r_66 c i arg1 harg1 arg2 harg2 arg3 harg3 arg4 harg4 x0, r_67 c i arg1 harg1 arg2 harg2 arg3 harg3 arg4 harg4 x0, r_68 c i arg1 harg1 arg2 harg2 arg3 harg3 arg4 harg4 x0, r_69 c i arg1 harg1 arg2 harg2 arg3 harg3 arg4 harg4 x0, r_70 c i arg1 harg1 arg2 harg2 arg3 harg3 arg4 harg4 x0, r_71 c i arg1 harg1 arg2 harg2 arg3 harg3 arg4 harg4 x0) j (ix2 r l)
    = bins (probsAt x0 r l) 1024 j := by
  refine loop4 Variants.none c none i arg1 harg1 arg2 harg2 arg3 harg3 arg4 harg4 _ _ _ _ _ _ _ _ _ _ _ _ _ _ _ _ _ _ _ _ (probsAt x0 r l) 768 r l ?_ (after3 c i arg1 harg1 arg2 harg2 arg3 harg3 arg4 harg4 x0 r l) j
  refine chunk_probs arg1 harg1 arg3 arg4 x0 r l 3 _ (HS0_24 c arg1 harg1 x0) ?_
  sl_kernel_rfl

/-- After the fifth chunk the tiles hold the bins after 1280 events. -/
theorem after5 (j : Fin 17) : pick (r_73 c i arg1 harg1 arg2 harg2 arg3 harg3 arg4 harg4 x0, r_74 c i arg1 harg1 arg2 harg2 arg3 harg3 arg4 harg4 x0, r_75 c i arg1 harg1 arg2 harg2 arg3 harg3 arg4 harg4 x0, r_76 c i arg1 harg1 arg2 harg2 arg3 harg3 arg4 harg4 x0, r_77 c i arg1 harg1 arg2 harg2 arg3 harg3 arg4 harg4 x0, r_78 c i arg1 harg1 arg2 harg2 arg3 harg3 arg4 harg4 x0, r_79 c i arg1 harg1 arg2 harg2 arg3 harg3 arg4 harg4 x0, r_80 c i arg1 harg1 arg2 harg2 arg3 harg3 arg4 harg4 x0, r_81 c i arg1 harg1 arg2 harg2 arg3 harg3 arg4 harg4 x0, r_82 c i arg1 harg1 arg2 harg2 arg3 harg3 arg4 harg4 x0, r_83 c i arg1 harg1 arg2 harg2 arg3 harg3 arg4 harg4 x0, r_84 c i arg1 harg1 arg2 harg2 arg3 harg3 arg4 harg4 x0, r_85 c i arg1 harg1 arg2 harg2 arg3 harg3 arg4 harg4 x0, r_86 c i arg1 harg1 arg2 harg2 arg3 harg3 arg4 harg4 x0, r_87 c i arg1 harg1 arg2 harg2 arg3 harg3 arg4 harg4 x0, r_88 c i arg1 harg1 arg2 harg2 arg3 harg3 arg4 harg4 x0, r_89 c i arg1 harg1 arg2 harg2 arg3 harg3 arg4 harg4 x0) j (ix2 r l)
    = bins (probsAt x0 r l) 1280 j := by
  refine loop5 Variants.none c none i arg1 harg1 arg2 harg2 arg3 harg3 arg4 harg4 _ _ _ _ _ _ _ _ _ _ _ _ _ _ _ _ _ _ _ _ _ _ _ _ _ _ _ (probsAt x0 r l) 1024 r l ?_ (after4 c i arg1 harg1 arg2 harg2 arg3 harg3 arg4 harg4 x0 r l) j
  refine chunk_probs arg1 harg1 arg3 arg4 x0 r l 4 _ (HS0_32 c arg1 harg1 x0) ?_
  sl_kernel_rfl

/-- After the sixth chunk the tiles hold the bins after 1536 events. -/
theorem after6 (j : Fin 17) : pick (r_90 c i arg1 harg1 arg2 harg2 arg3 harg3 arg4 harg4 x0, r_91 c i arg1 harg1 arg2 harg2 arg3 harg3 arg4 harg4 x0, r_92 c i arg1 harg1 arg2 harg2 arg3 harg3 arg4 harg4 x0, r_93 c i arg1 harg1 arg2 harg2 arg3 harg3 arg4 harg4 x0, r_94 c i arg1 harg1 arg2 harg2 arg3 harg3 arg4 harg4 x0, r_95 c i arg1 harg1 arg2 harg2 arg3 harg3 arg4 harg4 x0, r_96 c i arg1 harg1 arg2 harg2 arg3 harg3 arg4 harg4 x0, r_97 c i arg1 harg1 arg2 harg2 arg3 harg3 arg4 harg4 x0, r_98 c i arg1 harg1 arg2 harg2 arg3 harg3 arg4 harg4 x0, r_99 c i arg1 harg1 arg2 harg2 arg3 harg3 arg4 harg4 x0, r_100 c i arg1 harg1 arg2 harg2 arg3 harg3 arg4 harg4 x0, r_101 c i arg1 harg1 arg2 harg2 arg3 harg3 arg4 harg4 x0, r_102 c i arg1 harg1 arg2 harg2 arg3 harg3 arg4 harg4 x0, r_103 c i arg1 harg1 arg2 harg2 arg3 harg3 arg4 harg4 x0, r_104 c i arg1 harg1 arg2 harg2 arg3 harg3 arg4 harg4 x0, r_105 c i arg1 harg1 arg2 harg2 arg3 harg3 arg4 harg4 x0, r_106 c i arg1 harg1 arg2 harg2 arg3 harg3 arg4 harg4 x0) j (ix2 r l)
    = bins (probsAt x0 r l) 1536 j := by
  refine loop6 Variants.none c none i arg1 harg1 arg2 harg2 arg3 harg3 arg4 harg4 _ _ _ _ _ _ _ _ _ _ _ _ _ _ _ _ _ _ _ _ _ _ _ _ _ (probsAt x0 r l) 1280 r l ?_ (after5 c i arg1 harg1 arg2 harg2 arg3 harg3 arg4 harg4 x0 r l) j
  refine chunk_probs arg1 harg1 arg3 arg4 x0 r l 5 _ (HS0_40 c arg1 harg1 x0) ?_
  sl_kernel_rfl

/-- After the seventh chunk the tiles hold the bins after 1792 events. -/
theorem after7 (j : Fin 17) : pick (r_107 c i arg1 harg1 arg2 harg2 arg3 harg3 arg4 harg4 x0, r_108 c i arg1 harg1 arg2 harg2 arg3 harg3 arg4 harg4 x0, r_109 c i arg1 harg1 arg2 harg2 arg3 harg3 arg4 harg4 x0, r_110 c i arg1 harg1 arg2 harg2 arg3 harg3 arg4 harg4 x0, r_111 c i arg1 harg1 arg2 harg2 arg3 harg3 arg4 harg4 x0, r_112 c i arg1 harg1 arg2 harg2 arg3 harg3 arg4 harg4 x0, r_113 c i arg1 harg1 arg2 harg2 arg3 harg3 arg4 harg4 x0, r_114 c i arg1 harg1 arg2 harg2 arg3 harg3 arg4 harg4 x0, r_115 c i arg1 harg1 arg2 harg2 arg3 harg3 arg4 harg4 x0, r_116 c i arg1 harg1 arg2 harg2 arg3 harg3 arg4 harg4 x0, r_117 c i arg1 harg1 arg2 harg2 arg3 harg3 arg4 harg4 x0, r_118 c i arg1 harg1 arg2 harg2 arg3 harg3 arg4 harg4 x0, r_119 c i arg1 harg1 arg2 harg2 arg3 harg3 arg4 harg4 x0, r_120 c i arg1 harg1 arg2 harg2 arg3 harg3 arg4 harg4 x0, r_121 c i arg1 harg1 arg2 harg2 arg3 harg3 arg4 harg4 x0, r_122 c i arg1 harg1 arg2 harg2 arg3 harg3 arg4 harg4 x0, r_123 c i arg1 harg1 arg2 harg2 arg3 harg3 arg4 harg4 x0) j (ix2 r l)
    = bins (probsAt x0 r l) 1792 j := by
  refine loop7 Variants.none c none i arg1 harg1 arg2 harg2 arg3 harg3 arg4 harg4 _ _ _ _ _ _ _ _ _ _ _ _ _ _ _ _ _ _ _ _ _ _ _ (probsAt x0 r l) 1536 r l ?_ (after6 c i arg1 harg1 arg2 harg2 arg3 harg3 arg4 harg4 x0 r l) j
  refine chunk_probs arg1 harg1 arg3 arg4 x0 r l 6 _ (HS0_48 c arg1 harg1 x0) ?_
  sl_kernel_rfl

/-- The stores into the second scratch buffer before the last loop, newest first. -/
def lastCells : List (View.Piece (Elt Ideal) S256x8x128 .f32) :=
  ⟨Rect.unit ![255, 0, 0] S1x8x128.size inb_S256x8x128_S1x8x128_255_0_0, k0_pay13559 (v59768 c arg1 harg1 arg3 x0)⟩ ::
    ⟨Rect.unit ![254, 0, 0] S1x8x128.size inb_S256x8x128_S1x8x128_254_0_0, v59789 c arg1 harg1 arg3 x0⟩ :: HS1_2046 c arg1 harg1 arg3 x0

/-- The tiles after the last chunk. -/
def lastTiles : Tiles :=
  st_k0_t8 Variants.none c none i arg1 harg1 arg2 harg2 arg3 harg3 arg4 harg4 (r_107 c i arg1 harg1 arg2 harg2 arg3 harg3 arg4 harg4 x0) (r_108 c i arg1 harg1 arg2 harg2 arg3 harg3 arg4 harg4 x0) (r_109 c i arg1 harg1 arg2 harg2 arg3 harg3 arg4 harg4 x0) (r_110 c i arg1 harg1 arg2 harg2 arg3 harg3 arg4 harg4 x0) (r_111 c i arg1 harg1 arg2 harg2 arg3 harg3 arg4 harg4 x0) (r_112 c i arg1 harg1 arg2 harg2 arg3 harg3 arg4 harg4 x0) (r_113 c i arg1 harg1 arg2 harg2 arg3 harg3 arg4 harg4 x0) (r_114 c i arg1 harg1 arg2 harg2 arg3 harg3 arg4 harg4 x0) (r_115 c i arg1 harg1 arg2 harg2 arg3 harg3 arg4 harg4 x0) (r_116 c i arg1 harg1 arg2 harg2 arg3 harg3 arg4 harg4 x0) (r_117 c i arg1 harg1 arg2 harg2 arg3 harg3 arg4 harg4 x0) (r_118 c i arg1 harg1 arg2 harg2 arg3 harg3 arg4 harg4 x0) (r_119 c i arg1 harg1 arg2 harg2 arg3 harg3 arg4 harg4 x0) (r_120 c i arg1 harg1 arg2 harg2 arg3 harg3 arg4 harg4 x0) (r_121 c i arg1 harg1 arg2 harg2 arg3 harg3 arg4 harg4 x0) (r_122 c i arg1 harg1 arg2 harg2 arg3 harg3 arg4 harg4 x0) (r_123 c i arg1 harg1 arg2 harg2 arg3 harg3 arg4 harg4 x0) (v59768 c arg1 harg1 arg3 x0) (v59789 c arg1 harg1 arg3 x0)
    (arg4.view.writes (Elt Ideal) arg4.view.junk (lastCells c arg1 harg1 arg3 x0)) (r_107 c i arg1 harg1 arg2 harg2 arg3 harg3 arg4 harg4 x0, r_108 c i arg1 harg1 arg2 harg2 arg3 harg3 arg4 harg4 x0, r_109 c i arg1 harg1 arg2 harg2 arg3 harg3 arg4 harg4 x0, r_110 c i arg1 harg1 arg2 harg2 arg3 harg3 arg4 harg4 x0, r_111 c i arg1 harg1 arg2 harg2 arg3 harg3 arg4 harg4 x0, r_112 c i arg1 harg1 arg2 harg2 arg3 harg3 arg4 harg4 x0, r_113 c i arg1 harg1 arg2 harg2 arg3 harg3 arg4 harg4 x0, r_114 c i arg1 harg1 arg2 harg2 arg3 harg3 arg4 harg4 x0, r_115 c i arg1 harg1 arg2 harg2 arg3 harg3 arg4 harg4 x0, r_116 c i arg1 harg1 arg2 harg2 arg3 harg3 arg4 harg4 x0, r_117 c i arg1 harg1 arg2 harg2 arg3 harg3 arg4 harg4 x0, r_118 c i arg1 harg1 arg2 harg2 arg3 harg3 arg4 harg4 x0, r_119 c i arg1 harg1 arg2 harg2 arg3 harg3 arg4 harg4 x0, r_120 c i arg1 harg1 arg2 harg2 arg3 harg3 arg4 harg4 x0, r_121 c i arg1 harg1 arg2 harg2 arg3 harg3 arg4 harg4 x0, r_122 c i arg1 harg1 arg2 harg2 arg3 harg3 arg4 harg4 x0, r_123 c i arg1 harg1 arg2 harg2 arg3 harg3 arg4 harg4 x0) 32

/-- After the last chunk the tiles hold the bins after all 2048 events. -/
theorem after8 (j : Fin 17) : pick (lastTiles c i arg1 harg1 arg2 harg2 arg3 harg3 arg4 harg4 x0) j (ix2 r l) = bins (probsAt x0 r l) 2048 j := by
  refine loop8 Variants.none c none i arg1 harg1 arg2 harg2 arg3 harg3 arg4 harg4 _ _ _ _ _ _ _ _ _ _ _ _ _ _ _ _ _ _ _ _ _ (probsAt x0 r l) 1792 r l ?_ (after7 c i arg1 harg1 arg2 harg2 arg3 harg3 arg4 harg4 x0 r l) j
  refine chunk_probs arg1 harg1 arg3 arg4 x0 r l 7 _ (HS0_56 c arg1 harg1 x0) ?_
  sl_kernel_rfl

end Cert.Proof.Kern

end
-- ==== Proof.KernelValue.lean ====
/-
  The kernel's result array: a grid point's block from the tiles its loop leaves, the array from its blocks, and the host's reshapes and transposition around it.
-/
module

public import proofs.«01_k».proof.Proof.Chunks
public import Idealize.ShloMosaic.Lib.Pipeline.ValueKit
public import Idealize.ShloMosaic.Lib.Claim
public import Idealize.ShloMosaic.Lib.StableHlo.RunRead

@[expose] public section

set_option maxRecDepth 16384

noncomputable section

namespace Cert.Proof.Kern

open Idealize.ShloMosaic Idealize.ShloMosaic.TcCoe Idealize.SL.Sem
open Cert.KernelIdeal Cert.KernelIdeal.Gen

/-- The first `n` tiles stored into the result's block, newest first. -/
def outs (T : Tiles) : ℕ → List (View.Piece (Elt Ideal) S1x17x8x128 .f32)
  | 0 => []
  | n + 1 => ⟨Rect.unit ![0, n % 17, 0, 0] S1x1x8x128.size (fun a => by
      match a with
      | ⟨0, _⟩ => exact le_refl 1
      | ⟨1, _⟩ => exact Nat.mod_lt n (by decide)
      | ⟨2, _⟩ => exact le_refl 8
      | ⟨3, _⟩ => exact le_refl 128), shapeCast S1x1x8x128 (pick T ⟨n % 17, Nat.mod_lt n (by decide)⟩) shapeCasts_S8x128_S1x1x8x128⟩ :: outs T n

/-- A tile with two leading axes of one, at an entry. -/
theorem cast_out (v : FVec Ideal S8x128 .f32) (r : Fin 8) (l : Fin 128) : shapeCast S1x1x8x128 v shapeCasts_S8x128_S1x1x8x128 (ix4 0 0 r l) = v (ix2 r l) := by
  pointwise

/-- Row `k` of the result's block after its tiles are stored. -/
theorem outs_apply (T : Tiles) {sig : RefSig} {κ : Kind} {sp : Space} (w : View sig κ sp S1x17x8x128 .f32) (f : w.ty.Contents (Elt Ideal)) (k : Fin 17) (r : Fin 8) (l : Fin 128) :
    ∀ N ≤ 17, k.val < N → w.read (Elt Ideal) (w.writes (Elt Ideal) f (outs T N)) (ix4 0 k r l) = pick T k (ix2 r l)
  | 0, _, h => absurd h (Nat.not_lt_zero _)
  | N + 1, hN, h => by
    have hm : N % 17 = N := Nat.mod_eq_of_lt (by omega)
    by_cases e : k.val = N
    · refine (View.read_writes_cons_unit_of_mem w f _ _ _ (ix4 0 k r l) (ix4 0 0 r l) rfl fun a => ?_).trans ?_
      · match a with
        | ⟨0, _⟩ => rfl
        | ⟨1, _⟩ => show k.val = N % 17 + 0; omega
        | ⟨2, _⟩ => show r.val = 0 + r.val; omega
        | ⟨3, _⟩ => show l.val = 0 + l.val; omega
      · refine (cast_out _ r l).trans ?_
        rw [show (⟨N % 17, Nat.mod_lt N (by decide)⟩ : Fin 17) = k from Fin.ext (hm.trans e.symm)]
    · refine (View.read_writes_cons_unit_of_not_mem w f _ _ _ (ix4 0 k r l) rfl 1 ?_).trans (outs_apply T w f k r l N (by omega) (by omega))
      show k.val < N % 17 ∨ N % 17 + 1 ≤ k.val
      omega

/-- The body's stores into the result's block are the tiles after the last chunk, bin by bin. -/
theorem stores_eq (c : Dev nD) (i : grid0.Coords) (arg1 : Memref sig .tc .vmem S1x8x128x2048 .f32) (harg1 : arg1.IsWhole)
    (arg2 : Memref sig .tc .vmem S1x17x8x128 .f32) (harg2 : arg2.IsWhole) (arg3 : Memref sig .tc .vmem S8x256x128 .f32) (harg3 : arg3.IsWhole)
    (arg4 : Memref sig .tc .vmem S256x8x128 .f32) (harg4 : arg4.IsWhole) (x0 : Vec Ideal S1x8x128x2048 .f32) :
    (kernelRun0_A (F := Ideal) c i arg1 harg1 arg2 harg2 arg3 harg3 arg4 harg4 x0).1 = outs (lastTiles c i arg1 harg1 arg2 harg2 arg3 harg3 arg4 harg4 x0) 17 := by
  sl_kernel_rfl

/-- What the body leaves in the block holds, entry by entry, the bins after all 2048 events. -/
theorem out_apply (c : Dev nD) (i : grid0.Coords) (arg1 : Memref sig .tc .vmem S1x8x128x2048 .f32) (harg1 : arg1.IsWhole)
    (arg2 : Memref sig .tc .vmem S1x17x8x128 .f32) (harg2 : arg2.IsWhole) (arg3 : Memref sig .tc .vmem S8x256x128 .f32) (harg3 : arg3.IsWhole)
    (arg4 : Memref sig .tc .vmem S256x8x128 .f32) (harg4 : arg4.IsWhole) (x0 : Vec Ideal S1x8x128x2048 .f32) (y : S1x17x8x128.Idx) :
    out0_A_1 c i arg1 harg1 arg2 harg2 arg3 harg3 arg4 harg4 x0 y = bins (probsAt x0 ⟨(y 2).val, (y 2).isLt⟩ ⟨(y 3).val, (y 3).isLt⟩) 2048 ⟨(y 1).val, (y 1).isLt⟩ := by
  have hy : y = ix4 0 ⟨(y 1).val, (y 1).isLt⟩ ⟨(y 2).val, (y 2).isLt⟩ ⟨(y 3).val, (y 3).isLt⟩ := by
    funext a
    match a with
    | ⟨0, _⟩ => exact Fin.ext (Nat.lt_one_iff.1 (y 0).isLt)
    | ⟨1, _⟩ => rfl
    | ⟨2, _⟩ => rfl
    | ⟨3, _⟩ => rfl
  unfold out0_A_1
  rw [stores_eq]
  exact (congrArg _ hy).trans ((outs_apply _ _ _ _ _ _ 17 le_rfl (y 1).isLt).trans (after8 c i arg1 harg1 arg2 harg2 arg3 harg3 arg4 harg4 x0 _ _ _))

variable (m : (ℓ : Loc nD τ sig) → Buf (Elt Ideal) ℓ)

/-- The probabilities of one row of the argument, in order. -/
def rowOf (c : Dev nD) (b : Fin 16384) (t : ℕ) : EReal :=
  if h : t < 2048 then m ((c.tc : Thread nD τ).loc main_arg0) (ix2 b ⟨t, h⟩) else 0

/-- The array that the region reads is the argument with its rows split in blocks of 8 by 128. -/
theorem entry_array (c : Dev nD) : V m c main_v0
    = shapeCast S16x8x128x2048 (m ((c.tc : Thread nD τ).loc main_arg0) : FVec Ideal S16384x2048 .f32) shapeCasts_S16384x2048_S16x8x128x2048 := by
  simp only [V, V0, hostOps0, List.flatten_cons, List.flatten_nil, List.append_nil]
  after_reads_simp
  rfl

/-- Rows split in blocks of 8 by 128, at an entry. -/
theorem split_apply (X : FVec Ideal S16384x2048 .f32) (t : Fin 16) (r : Fin 8) (l : Fin 128) (n : Fin 2048) :
    shapeCast S16x8x128x2048 X shapeCasts_S16384x2048_S16x8x128x2048 (ix4 t r l n)
      = X (ix2 ⟨t.val * 1024 + r.val * 128 + l.val, by omega⟩ n) := by
  pointwise

/-- The array that the region reads, at an entry. -/
theorem entry_apply (c : Dev nD) (t : Fin 16) (r : Fin 8) (l : Fin 128) (n : Fin 2048) :
    V m c main_v0 (ix4 t r l n) = m ((c.tc : Thread nD τ).loc main_arg0) (ix2 ⟨t.val * 1024 + r.val * 128 + l.val, by omega⟩ n) := by
  rw [entry_array]
  exact split_apply _ t r l n

/-- Point `t` reads block `t` of the region's input. -/
theorem index_in : ∀ t : Fin cfg0.N, win0_0.index t = ![t.val, 0, 0, 0] := (by decide +kernel : ∀ t : Fin grid0.N, _)

/-- Point `t` writes block `t` of the region's result. -/
theorem index_out : ∀ t : Fin cfg0.N, win0_1.index t = ![t.val, 0, 0, 0] := (by decide +kernel : ∀ t : Fin grid0.N, _)

/-- A point's block of the input holds, entry by entry of the tiles, one row of the argument. -/
theorem block_probs (c : Dev nD) (t : Fin cfg0.N) (ht : t.val < 16) (r : Fin 8) (l : Fin 128) :
    probsAt (iblk m c 0 t) r l = rowOf m c ⟨t.val * 1024 + r.val * 128 + l.val, by omega⟩ := by
  funext n
  unfold probsAt rowOf
  split
  · next h =>
    rw [← entry_apply m c ⟨t.val, ht⟩ r l ⟨n, h⟩]
    blk_simp [iblk]
    refine congrArg (V m c main_v0) ?_
    blk_ext [index_in]
  · rfl

/-- The bins of two rows that are the same number, at two bins that are the same number. -/
theorem bins_at (c : Dev nD) (b b' : Fin 16384) (k k' : Fin 17) (hb : b.val = b'.val) (hk : k.val = k'.val) :
    bins (rowOf m c b) 2048 k = bins (rowOf m c b') 2048 k' := by
  rw [Fin.ext hb, Fin.ext hk]

/-- The region's result array: at each entry the bins of the row that its block, tile row and lane number. -/
theorem region_array (c : Dev nD) : (dats m 0 c).arrAt 1 cfg0.N
    = fun i : S16x17x8x128.Idx => bins (rowOf m c ⟨(i 0).val * 1024 + (i 2).val * 128 + (i 3).val, by
        have h0 : (i 0).val < 16 := (i 0).isLt
        have h2 : (i 2).val < 8 := (i 2).isLt
        have h3 : (i 3).val < 128 := (i 3).isLt
        omega⟩) 2048 ⟨(i 1).val, (i 1).isLt⟩ := by
  refine (dats m 0 c).arrAt_eq_of_covers 1 _ (by decide +kernel) fun t hf y => ?_
  blk_simp
  rw [after0_1]
  unfold outsAt0
  rw [out_apply, block_probs m c t t.isLt]
  refine bins_at m c _ _ _ _ ?_ ?_
  · show _ = win0_1.index t 0 * 1024 + (win0_1.index t 2 * 8 + (y 2).val) * 128 + (win0_1.index t 3 * 128 + (y 3).val)
    rw [index_out]
    show t.val * 1024 + (y 2).val * 128 + (y 3).val = t.val * 1024 + (0 * 8 + (y 2).val) * 128 + (0 * 128 + (y 3).val)
    omega
  · show _ = win0_1.index t 1 * 17 + (y 1).val
    rw [index_out]
    show (y 1).val = 0 * 17 + (y 1).val
    omega

/-- The program's result: the region's result array with its columns moved back to the last axis and its rows joined. -/
theorem tail_array (c : Dev nD) : Pipeline.afterTail₀ cfgs (dats m) 0 (V0 m) [hostOps1] c main_v3
    = shapeCast S16384x17 (transpose S16x8x128x17 [0, 2, 3, 1] ((dats m 0 c).arrAt 1 cfg0.N : FVec Ideal S16x17x8x128 .f32) transposes_S16x17x8x128_S16x8x128x17_0_2_3_1)
        shapeCasts_S16x8x128x17_S16384x17 := by
  have hA := Pipeline.withArrays_arr spec0 (by decide) c (V0 m c) (fun w => (dats m 0 c).arrAt w (cfgs 0).N) 1
  unfold Pipeline.afterTail₀
  simp only [hostOps1, List.flatten_cons, List.flatten_nil, List.append_nil]
  after_reads_simp
  rw [← hA]
  rfl

/-- Entry `k` of row `b` of the result: the bins of row `b` of the argument after all its events. -/
theorem tail_apply (c : Dev nD) (b : Fin 16384) (k : Fin 17) :
    Pipeline.afterTail₀ cfgs (dats m) 0 (V0 m) [hostOps1] c main_v3 (ix2 b k) = bins (rowOf m c b) 2048 k := by
  rw [tail_array, region_array]
  pointwise
  exact bins_at m c _ _ _ _ (show b.val / 1024 * 1024 + b.val / 128 % 8 * 128 + b.val % 128 = b.val by omega) rfl

/-- Every run of the kernel ends with the result at the bins of each row of the argument, and the argument unchanged. -/
theorem run (ρ : Dev nD → PrngReg) : θ_run (defs (F := Ideal)) (onTc (τ := τ) (main (F := Ideal))) ⟨m, fun _ => 0, ρ⟩ fun r => ∀ c : Dev nD,
    r.2.mem ((c.tc : Thread nD τ).loc main_v3) = (fun i : S16384x17.Idx => bins (rowOf m c (i 0)) 2048 (i 1))
    ∧ r.2.mem ((c.tc : Thread nD τ).loc main_arg0) = m ((c.tc : Thread nD τ).loc main_arg0) := by
  refine (θ_run defs _ _).mono (fun r h c => ⟨?_, (h.2 c)⟩) (θ_run_and (run_main m ρ) (unchanged m ρ))
  refine ((h.1 c).2 main_v3 (Pipeline.mem_restRefs_of main_v3 (by decide) (by decide))).trans (funext fun i => ?_)
  obtain ⟨b, k, rfl⟩ : ∃ b k, i = ix2 b k := ⟨i 0, i 1, by funext a; match a with | ⟨0, _⟩ => rfl | ⟨1, _⟩ => rfl⟩
  exact tail_apply m c b k

end Cert.Proof.Kern

end
-- ==== Proof.lean ====
/-
  The claims of `Cert.Claim`: the three frames, the kernel's idealization, and the equality of the kernel's result and the reference's at the extended reals. The frames of the
  two kernels are the generated certificates; the values are proved in `Proof/RefValue.lean` (the reference) and `Proof/KernelValue.lean` (the kernel), both as the recurrence of
  `Proof/Recur.lean`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.RefValue
public import proofs.«01_k».proof.Proof.KernelValue
public import Idealize.ShloMosaic.Lib.Quiescent
public import Idealize.ShloMosaic.Adequacy
public import Idealize.ShloMosaic.Init

@[expose] public section

noncomputable section

namespace Cert.Proof

open Idealize.ShloMosaic Idealize.SL.Sem

/-- The reference terminates with its argument unchanged and no semaphore counted. -/
theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- From the same argument the kernel and the reference end with the same result: both hold, in each row, the bins after the row's 2048 events. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => fun i : Cert.KernelIdeal.S16384x17.Idx => bins (Kern.rowOf m c (i 0)) 2048 (i 1), Kern.run m g, ?_⟩
  refine (θ_run Cert.ReferenceIdeal.defs _ _).mono (fun r h c => ⟨(h c).1.trans (funext fun i => ?_), (h c).2⟩) (Cert.ReferenceIdeal.Value.run (F := Ideal) m' g')
  obtain ⟨b, k, rfl⟩ : ∃ b k, i = ix2 b k := ⟨i 0, i 1, by funext a; match a with | ⟨0, _⟩ => rfl | ⟨1, _⟩ => rfl⟩
  refine ((Ref.iter_holds m' c 2048 le_rfl).2.2 b k).trans ?_
  rw [hagree c]
  rfl

/-- All that is claimed. -/
theorem claim : Cert.Claim :=
  ⟨Cert.Kernel.Gen.facts, Cert.KernelIdeal.Gen.facts, Cert.ReferenceIdeal.Gen.facts, fun m ρ _ => Cert.Kernel.Gen.frame m ρ, fun m ρ _ => Cert.KernelIdeal.Gen.frame m ρ,
    reference_frame, trivial, algebraic⟩

end Cert.Proof

end
